-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S100000x32 : Shape := ⟨2, ![100000, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S_ : Shape := ⟨0, ![]⟩

class Facts : Prop where
  bcast_S_S32x1 : S_.BroadcastsInDim S32x1 (![] : Fin 0 → Fin S32x1.rank)
  reducesTo_S32x1_S_d0_1 : S32x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x32 .f32) (main_arg1 : FVec F S32x32 .f32) (main_arg2 : FVec F S32 .f32) (main_arg3 : FVec F S32x1 .f32) (main_arg4 : FVec F S1 .f32) (main_arg5 : FVec F S32x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S32x1 .f32 := Host.absf main_arg3
  let main_cst : FVec F S_ .f32 := constant S_ .f32 0x7F800000#32
  let main_v1 : FVec F S32x1 .f32 := broadcastInDim S32x1 ![] bcast_S_S32x1 main_cst
  let main_v2 : IVec S32x1 1 := cmpf .olt main_v0 main_v1
  let main_c : IVec S_ 1 := constantI S_ 1 1#1
  let main_v3 : IVec S_ 1 := (fun x v => Host.reduce IntOp.andi x v reducesTo_S32x1_S_d0_1 h_S_) main_v2 main_c
  let main_v4 : FVec F S1 .f32 := Host.absf main_arg4
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S100000x32 : Shape := ⟨2, ![100000, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S32x100000 : Shape := ⟨2, ![32, 100000]⟩
abbrev S1x32 : Shape := ⟨2, ![1, 32]⟩
abbrev S1x1x1x32 : Shape := ⟨4, ![1, 1, 1, 32]⟩
abbrev S8x1x1x32 : Shape := ⟨4, ![8, 1, 1, 32]⟩
abbrev S8x32 : Shape := ⟨2, ![8, 32]⟩
abbrev S128x32 : Shape := ⟨2, ![128, 32]⟩
abbrev S128x1 : Shape := ⟨2, ![128, 1]⟩
abbrev S64x128 : Shape := ⟨2, ![64, 128]⟩
abbrev S1x64 : Shape := ⟨2, ![1, 64]⟩
abbrev S1x1 : Shape := ⟨2, ![1, 1]⟩
abbrev S32x25600 : Shape := ⟨2, ![32, 25600]⟩
abbrev S32x512 : Shape := ⟨2, ![32, 512]⟩
abbrev S8x512 : Shape := ⟨2, ![8, 512]⟩
abbrev S8x25600 : Shape := ⟨2, ![8, 25600]⟩
abbrev S1x512 : Shape := ⟨2, ![1, 512]⟩
abbrev S1x8x512 : Shape := ⟨3, ![1, 8, 512]⟩
abbrev S1x1x1 : Shape := ⟨3, ![1, 1, 1]⟩

abbrev nBuf : Space → Nat
  | .hbm => 26
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S32x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S32x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S32x100000, .f32⟩
  | .hbm, ⟨12, _⟩ => ⟨S32x32, .f32⟩
  | .hbm, ⟨13, _⟩ => ⟨S32x1, .f32⟩
  | .hbm, ⟨14, _⟩ => ⟨S1x32, .f32⟩
  | .hbm, ⟨15, _⟩ => ⟨S1x1x1x32, .f32⟩
  | .hbm, ⟨16, _⟩ => ⟨S8x1x1x32, .f32⟩
  | .hbm, ⟨17, _⟩ => ⟨S8x32, .f32⟩
  | .hbm, ⟨18, _⟩ => ⟨S128x32, .f32⟩
  | .hbm, ⟨19, _⟩ => ⟨S128x1, .f32⟩
  | .hbm, ⟨20, _⟩ => ⟨S64x128, .f32⟩
  | .hbm, ⟨21, _⟩ => ⟨S64x1, .f32⟩
  | .hbm, ⟨22, _⟩ => ⟨S1x64, .f32⟩
  | .hbm, ⟨23, _⟩ => ⟨S1x1, .f32⟩
  | .hbm, ⟨24, _⟩ => ⟨S1x1, .f32⟩
  | .hbm, ⟨25, _⟩ => ⟨S1, .f32⟩
  | .local _ .vmem, ⟨0, _⟩ => ⟨S32x25600, .f32⟩
  | .local _ .vmem, ⟨1, _⟩ => ⟨S32x25600, .f32⟩
  | .local _ .vmem, ⟨2, _⟩ => ⟨S32x32, .f32⟩
  | .local _ .vmem, ⟨3, _⟩ => ⟨S32x1, .f32⟩
  | .local _ .vmem, ⟨4, _⟩ => ⟨S8x32, .f32⟩
  | .local _ .vmem, ⟨5, _⟩ => ⟨S128x32, .f32⟩
  | .local _ .vmem, ⟨6, _⟩ => ⟨S128x1, .f32⟩
  | .local _ .vmem, ⟨7, _⟩ => ⟨S64x128, .f32⟩
  | .local _ .vmem, ⟨8, _⟩ => ⟨S64x1, .f32⟩
  | .local _ .vmem, ⟨9, _⟩ => ⟨S1x64, .f32⟩
  | .local _ .vmem, ⟨10, _⟩ => ⟨S1x1, .f32⟩
  | .local _ .vmem, ⟨11, _⟩ => ⟨S1x1, .f32⟩
  | .local _ .vmem, ⟨12, _⟩ => ⟨S32x512, .f32⟩
  | .local _ .vmem, ⟨13, _⟩ => ⟨S8x512, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32_10 : BitVec 32 := 3#32
  let v20 : BitVec 1 := Scalar.cmpi .eq arg0 c3_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S100000x32 : Shape := ⟨2, ![100000, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S32x128 : Shape := ⟨2, ![32, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S_ : Shape := ⟨0, ![]⟩
abbrev S100000 : Shape := ⟨1, ![100000]⟩
abbrev S1x32 : Shape := ⟨2, ![1, 32]⟩
abbrev S100000x1 : Shape := ⟨2, ![100000, 1]⟩
abbrev S1x1 : Shape := ⟨2, ![1, 1]⟩
abbrev S1x128 : Shape := ⟨2, ![1, 128]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S32x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S32x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S_, .i32⟩
  | .hbm, ⟨12, _⟩ => ⟨S100000, .i32⟩
  | .hbm, ⟨13, _⟩ => ⟨S100000x32, .f32⟩
  | .hbm, ⟨14, _⟩ => ⟨S1x32, .f32⟩
  | .hbm, ⟨15, _⟩ => ⟨S100000x32, .f32⟩
  | .hbm, ⟨16, _⟩ => ⟨S100000x32, .f32⟩
  | .hbm, ⟨17, _⟩ => ⟨S100000x32, .f32⟩
  | .hbm, ⟨18, _⟩ => ⟨S100000x1, .f32⟩
  | .hbm, ⟨19, _⟩ => ⟨S1x1, .f32⟩
  | .hbm, ⟨20, _⟩ => ⟨S100000x1, .f32⟩
  | .hbm, ⟨21, _⟩ => ⟨S100000x1, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S100000x1, .i32⟩
  | .hbm, ⟨37, _⟩ => ⟨S1, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x32, .f32⟩
  | .hbm, ⟨52, _⟩ => ⟨S100000x32, .f32⟩
  | .hbm, ⟨53, _⟩ => ⟨S_, .f32⟩
  | .hbm, ⟨54, _⟩ => ⟨S1x32, .f32⟩
  | .hbm, ⟨55, _⟩ => ⟨S100000x1, .i32⟩
  | .hbm, ⟨56, _⟩ => ⟨S1x32, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S_, .f32⟩
  | .hbm, ⟨67, _⟩ => ⟨S1x64, .f32⟩
  | .hbm, ⟨68, _⟩ => ⟨S1x64, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S1x1, .f32⟩
  | .hbm, ⟨73, _⟩ => ⟨S1x1, .f32⟩
  | .hbm, ⟨74, _⟩ => ⟨S_, .f32⟩
  | .hbm, ⟨75, _⟩ => ⟨S1x1, .f32⟩
  | .hbm, ⟨76, _⟩ => ⟨S1x1, .f32⟩
  | .hbm, ⟨77, _⟩ => ⟨S_, .f32⟩
  | .hbm, ⟨78, _⟩ => ⟨S1x1, .f32⟩
  | .hbm, ⟨79, _⟩ => ⟨S1x1, .f32⟩
  | .hbm, ⟨80, _⟩ => ⟨S1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call0_cst : Ref sig .tc := ⟨.hbm, 60, rfl⟩
abbrev main_call0_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Proof.Frame.Body.lean ====
/- The body of the compiled kernel, for its frame: the three conditions of the body in closed form, and what it means that
   the body keeps its memrefs, nothing of their contents being named. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The condition of the body's first conditional: the grid coordinate is 0 (the scratch is cleared). -/
abbrev isFirst (i : grid0.Coords) : Prop :=
  Scalar.cmpi .ne (Scalar.extui (Scalar.cmpi .eq (BitVec.ofNat 32 (i 0).val) 0#32)) 0#32 = 1#1

/-- The condition of the second: the coordinate is below 3 (a block that lies in the array whole). -/
abbrev isInner (i : grid0.Coords) : Prop :=
  Scalar.cmpi .ne (Scalar.extui (Scalar.cmpi .slt (BitVec.ofNat 32 (i 0).val) 3#32)) 0#32 = 1#1

/-- The condition of the third: the coordinate is 3 (the last block, and the head of the network). -/
abbrev isLast (i : grid0.Coords) : Prop := k0_cond3 i = 1#1

/-- The first condition holds at point 0 alone. -/
theorem isFirst_iff : ∀ t : Fin grid0.N, isFirst (grid0.coords t) ↔ t.val = 0 := by decide +kernel

/-- The second holds at the points before point 3. -/
theorem isInner_iff : ∀ t : Fin grid0.N, isInner (grid0.coords t) ↔ t.val < 3 := by decide +kernel

/-- The third holds at point 3 alone. -/
theorem isLast_iff : ∀ t : Fin grid0.N, isLast (grid0.coords t) ↔ t.val = 3 := by decide +kernel

/-- The memref `a` is owned whole, at contents that are not named. -/
def held {s : Shape} (c : Dev nD) (a : Memref sig .tc .vmem s .f32) : sProp 𝕄 :=
  iprop(∃ X, owns (c : Thread nD τ) a fullShare X)

/-- The body at coordinates `i` keeps every one of its memrefs, each at contents that are not named. -/
def KeepsAll (i : grid0.Coords) : Prop :=
  ∀ (c : Dev nD)
    (arg1 : Memref sig .tc .vmem S32x25600 .f32) (harg1 : arg1.IsWhole)
    (arg2 : Memref sig .tc .vmem S32x32 .f32) (harg2 : arg2.IsWhole)
    (arg3 : Memref sig .tc .vmem S32x1 .f32) (harg3 : arg3.IsWhole)
    (arg4 : Memref sig .tc .vmem S8x32 .f32) (harg4 : arg4.IsWhole)
    (arg5 : Memref sig .tc .vmem S128x32 .f32) (harg5 : arg5.IsWhole)
    (arg6 : Memref sig .tc .vmem S128x1 .f32) (harg6 : arg6.IsWhole)
    (arg7 : Memref sig .tc .vmem S64x128 .f32) (harg7 : arg7.IsWhole)
    (arg8 : Memref sig .tc .vmem S64x1 .f32) (harg8 : arg8.IsWhole)
    (arg9 : Memref sig .tc .vmem S1x64 .f32) (harg9 : arg9.IsWhole)
    (arg10 : Memref sig .tc .vmem S1x1 .f32) (harg10 : arg10.IsWhole)
    (arg11 : Memref sig .tc .vmem S1x1 .f32) (harg11 : arg11.IsWhole)
    (arg12 : Memref sig .tc .vmem S32x512 .f32) (harg12 : arg12.IsWhole)
    (arg13 : Memref sig .tc .vmem S8x512 .f32) (harg13 : arg13.IsWhole)
    (E : Set ℕ) (K : PUnit → sProp 𝕄),
    iprop(held c arg1
        ∗ held c arg2
        ∗ held c arg3
        ∗ held c arg4
        ∗ held c arg5
        ∗ held c arg6
        ∗ held c arg7
        ∗ held c arg8
        ∗ held c arg9
        ∗ held c arg10
        ∗ held c arg11
        ∗ held c arg12
        ∗ held c arg13
        ∗ (iprop(held c arg1
            ∗ held c arg2
            ∗ held c arg3
            ∗ held c arg4
            ∗ held c arg5
            ∗ held c arg6
            ∗ held c arg7
            ∗ held c arg8
            ∗ held c arg9
            ∗ held c arg10
            ∗ held c arg11
            ∗ held c arg12
            ∗ held c arg13) -∗ K ⟨⟩))
      ⊢ wp frame (wpE (defs₀ (F := F)) Variants.none c none) E
          (cc0_body i arg1 harg1 arg2 harg2 arg3 harg3 arg4 harg4 arg5 harg5
            arg6 harg6 arg7 harg7 arg8 harg8 arg9 harg9 arg10 harg10
            arg11 harg11 arg12 harg12 arg13 harg13) K

end Cert.Kernel.Hand

end
-- ==== Proof.Frame.First.lean ====
/- Point 0: the scratch is cleared and the first block added. -/
module

public import proofs.«01_k».proof.Proof.Frame.Body
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 1000000 in
/-- Point 0: the scratch is cleared and the first block added. Every memref the body is handed it hands back. -/
theorem keeps_first (i : grid0.Coords) (h0 : isFirst i) (h1 : isInner i) (h2 : ¬isLast i) : KeepsAll (F := F) i := by
  intro c arg1 harg1 arg2 harg2 arg3 harg3 arg4 harg4 arg5 harg5 arg6 harg6 arg7 harg7 arg8 harg8 arg9 harg9
    arg10 harg10 arg11 harg11 arg12 harg12 arg13 harg13 E K
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold held owns
  iintro ⟨⟨%x0, %f0, %hf0, H0⟩, ⟨%x1, %f1, %hf1, H1⟩, ⟨%x2, %f2, %hf2, H2⟩, ⟨%x3, %f3, %hf3, H3⟩, ⟨%x4, %f4, %hf4, H4⟩, ⟨%x5, %f5, %hf5, H5⟩, ⟨%x6, %f6, %hf6, H6⟩, ⟨%x7, %f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, Hk⟩
  sl_exec (disch := first | sl_exact h0 | sl_exact h1 | sl_exact h2)
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

end Cert.Kernel.Hand

end
-- ==== Proof.Frame.Inner.lean ====
/- Points 1 and 2: a block is added to the scratch. -/
module

public import proofs.«01_k».proof.Proof.Frame.Body
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 1000000 in
/-- Points 1 and 2: a block is added to the scratch. Every memref the body is handed it hands back. -/
theorem keeps_inner (i : grid0.Coords) (h0 : ¬isFirst i) (h1 : isInner i) (h2 : ¬isLast i) : KeepsAll (F := F) i := by
  intro c arg1 harg1 arg2 harg2 arg3 harg3 arg4 harg4 arg5 harg5 arg6 harg6 arg7 harg7 arg8 harg8 arg9 harg9
    arg10 harg10 arg11 harg11 arg12 harg12 arg13 harg13 E K
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold held owns
  iintro ⟨⟨%x0, %f0, %hf0, H0⟩, ⟨%x1, %f1, %hf1, H1⟩, ⟨%x2, %f2, %hf2, H2⟩, ⟨%x3, %f3, %hf3, H3⟩, ⟨%x4, %f4, %hf4, H4⟩, ⟨%x5, %f5, %hf5, H5⟩, ⟨%x6, %f6, %hf6, H6⟩, ⟨%x7, %f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, Hk⟩
  sl_exec (disch := first | sl_exact h0 | sl_exact h1 | sl_exact h2)
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

end Cert.Kernel.Hand

end
-- ==== Proof.Frame.Last.lean ====
/- Point 3: the last block is added and the head of the network computed. -/
module

public import proofs.«01_k».proof.Proof.Frame.Body
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 1000000 in
/-- Point 3: the last block is added and the head of the network computed. Every memref the body is handed it hands back. -/
theorem keeps_last (i : grid0.Coords) (h0 : ¬isFirst i) (h1 : ¬isInner i) (h2 : isLast i) : KeepsAll (F := F) i := by
  intro c arg1 harg1 arg2 harg2 arg3 harg3 arg4 harg4 arg5 harg5 arg6 harg6 arg7 harg7 arg8 harg8 arg9 harg9
    arg10 harg10 arg11 harg11 arg12 harg12 arg13 harg13 E K
  simp only [cc0_body_eq_skeleton]; unfold cc0_body_skel
  simp only [k0_part7_eq_skeleton, k0_part8_eq_skeleton, k0_part9_eq_skeleton, k0_part10_eq_skeleton, k0_part11_eq_skeleton, k0_part12_eq_skeleton, k0_part13_eq_skeleton]
  unfold held owns
  iintro ⟨⟨%x0, %f0, %hf0, H0⟩, ⟨%x1, %f1, %hf1, H1⟩, ⟨%x2, %f2, %hf2, H2⟩, ⟨%x3, %f3, %hf3, H3⟩, ⟨%x4, %f4, %hf4, H4⟩, ⟨%x5, %f5, %hf5, H5⟩, ⟨%x6, %f6, %hf6, H6⟩, ⟨%x7, %f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, Hk⟩
  sl_exec (disch := first | sl_exact h0 | sl_exact h1 | sl_exact h2)
  sl_step
  iapply Hk
  isplitl [H0]
  · iexists _; iexists _; isplitr; swap; · iexact H0
    ipureintro; rfl
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

end Cert.Kernel.Hand

end
-- ==== Proof.Frame.Launch.lean ====
/- The frame of the compiled kernel: @main runs to its end from any memory, leaves its arguments as they were and every
   semaphore counter at zero. Nothing is named of what the kernel computes: every window of the pipeline is forgotten. -/
module

public import proofs.«01_k».proof.Proof.Frame.First
public import proofs.«01_k».proof.Proof.Frame.Inner
public import proofs.«01_k».proof.Proof.Frame.Last
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body keeps its memrefs at every point: each point is the first, an inner or the last one. -/
theorem keeps (t : Fin cfg0.N) : KeepsAll (F := F) (grid0.coords t) := by
  have hN : t.val < 4 := lt_of_lt_of_eq t.isLt (show cfg0.N = 4 from N_0)
  by_cases h0 : t.val = 0
  · exact keeps_first _ ((isFirst_iff t).2 h0) ((isInner_iff t).2 (by omega)) fun h => by
      have := (isLast_iff t).1 h; omega
  · by_cases h1 : t.val < 3
    · exact keeps_inner _ (fun h => h0 ((isFirst_iff t).1 h)) ((isInner_iff t).2 h1) fun h => by
        have := (isLast_iff t).1 h; omega
    · exact keeps_last _ (fun h => h0 ((isFirst_iff t).1 h)) (fun h => h1 ((isInner_iff t).1 h))
        ((isLast_iff t).2 (by omega))

/-- The proof data of the pipeline on core `c`: the arrays as the region finds them; what a window's buffer holds
    after the body is not named; between the points the scratch and the generator register are owned at anything. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q _ := fullShare
  owed _ := 0

/-- The scratch and the generator register, the scratch as the two memrefs the body is handed. -/
theorem rest_eq (c : Dev nD) :
    (Pipeline.ΦA spec0 c : sProp 𝕄)
      = iprop(iprop(held c (Memref.whole cc0_scratch0) ∗ held c (Memref.whole cc0_scratch1)) ∗ (∃ r, prngReg c r)) := by
  unfold Pipeline.ΦA held; rw [scopedRest0_eq]; simp only [owns_whole]; try rfl

/-- The row of the body table at point `t` is the body on the buffers of that point. -/
theorem defs₀_row (t : Fin cfg0.N) :
    defs₀ (F := F) .tc cfg0.body (cfg0.bodyArgs t (cfg0.slots t)) = bodyAt0 t := by
  unfold defs₀; rw [Defs.onTc_tc]

/-- The body at point `t`, from what the pipeline hands it to what it takes back. -/
theorem body_point (c : Dev nD) (t : Fin cfg0.N) :
    iprop(Pipeline.ΦA spec0 c ∗ (dats m 0 c).owesAt () t.castSucc
      ∗ held c (win0_0.stage (cfg0.slots t 0))
      ∗ held c (win0_1.stage (cfg0.slots t 1))
      ∗ held c (win0_2.stage (cfg0.slots t 2))
      ∗ held c (win0_3.stage (cfg0.slots t 3))
      ∗ held c (win0_4.stage (cfg0.slots t 4))
      ∗ held c (win0_5.stage (cfg0.slots t 5))
      ∗ held c (win0_6.stage (cfg0.slots t 6))
      ∗ held c (win0_7.stage (cfg0.slots t 7))
      ∗ held c (win0_8.stage (cfg0.slots t 8))
      ∗ held c (win0_9.stage (cfg0.slots t 9))
      ∗ held c (win0_10.stage (cfg0.slots t 10)))
    ⊢ wp frame (wpE (defs₀ (F := F)) Variants.none c none) Set.univ (bodyAt0 t) (fun _ =>
      iprop(Pipeline.ΦA spec0 c ∗ (dats m 0 c).owesAt () t.castSucc
      ∗ held c (win0_0.stage (cfg0.slots t 0))
      ∗ held c (win0_1.stage (cfg0.slots t 1))
      ∗ held c (win0_2.stage (cfg0.slots t 2))
      ∗ held c (win0_3.stage (cfg0.slots t 3))
      ∗ held c (win0_4.stage (cfg0.slots t 4))
      ∗ held c (win0_5.stage (cfg0.slots t 5))
      ∗ held c (win0_6.stage (cfg0.slots t 6))
      ∗ held c (win0_7.stage (cfg0.slots t 7))
      ∗ held c (win0_8.stage (cfg0.slots t 8))
      ∗ held c (win0_9.stage (cfg0.slots t 9))
      ∗ held c (win0_10.stage (cfg0.slots t 10)))) := by
  rw [rest_eq]
  iintro ⟨⟨⟨HS0, HS1⟩, Hg⟩, Ho, H0, H1, H2, H3, H4, H5, H6, H7, H8, H9, H10⟩
  iapply (keeps t c _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's obligation for the body, every window forgotten. -/
theorem obligation (c : Dev nD) :
    BodyObligationLoose (dats (F := F) m 0 c) (defs₀ (F := F)) Variants.none () Set.univ (fun _ => true) := fun t => by
  rw [bigSep_W0, defs₀_row (F := F) t]
  have h := body_point m c t
  unfold held at h
  exact triple_restated h rfl .rfl fun _ => .rfl

/-- The one buffer the lines after the region write: the result. -/
def written : Finset (Ref sig .tc) := {main_v14}

/-- The lines after the region write nothing but the result. -/
theorem tail_writes : ∀ ops ∈ ([hostOps1] : List (List (HloOp τ sig (Elt F)))), ∀ op ∈ ops,
    ∀ b : Ref sig .tc, Proc.devRef .tc b ∈ op.writes → b ∈ written := by
  simp only [List.mem_singleton, forall_eq, hostOps1]
  intro b hb
  simp only [StableHlo.reshape_writes, Finset.mem_singleton] at hb
  simp only [written, Finset.mem_singleton]
  exact Proc.devRef_injective _ hb

set_option backward.isDefEq.respectTransparency.types false in
/-- The run: @main ends, with every buffer that neither a window nor a later line writes as the region found it, and
    every counter at zero. -/
theorem run_main : θ_run defs (onTc (τ := τ) (main (F := F))) (s₀ m ρ) (fun r =>
    Pipeline.RDat.FramePostR (cfgs 0) (fun c => (dats m 0 c).toRForget fun _ => true) written (V m) r ∧ r.2.sem = fun _ => 0) :=
  Pipeline.θ_run_frame_around_T_forget (Q' := _) cfgs (dats m) (0 : Fin 1) launch0 defs₀ Variants.none (fun _ => true) written m ρ main
    (hbody := obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The frame: the arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Finset.mem_sdiff.2 ⟨Pipeline.mem_restRefs_of main_arg0 (by decide) (by decide), by decide⟩)).trans (V_main_arg0 m c),
    ((h.1 c).2 main_arg1 (Finset.mem_sdiff.2 ⟨Pipeline.mem_restRefs_of main_arg1 (by decide) (by decide), by decide⟩)).trans (V_main_arg1 m c),
    ((h.1 c).2 main_arg2 (Finset.mem_sdiff.2 ⟨Pipeline.mem_restRefs_of main_arg2 (by decide) (by decide), by decide⟩)).trans (V_main_arg2 m c),
    ((h.1 c).2 main_arg3 (Finset.mem_sdiff.2 ⟨Pipeline.mem_restRefs_of main_arg3 (by decide) (by decide), by decide⟩)).trans (V_main_arg3 m c),
    ((h.1 c).2 main_arg4 (Finset.mem_sdiff.2 ⟨Pipeline.mem_restRefs_of main_arg4 (by decide) (by decide), by decide⟩)).trans (V_main_arg4 m c),
    ((h.1 c).2 main_arg5 (Finset.mem_sdiff.2 ⟨Pipeline.mem_restRefs_of main_arg5 (by decide) (by decide), by decide⟩)).trans (V_main_arg5 m c),
    ((h.1 c).2 main_arg6 (Finset.mem_sdiff.2 ⟨Pipeline.mem_restRefs_of main_arg6 (by decide) (by decide), by decide⟩)).trans (V_main_arg6 m c),
    ((h.1 c).2 main_arg7 (Finset.mem_sdiff.2 ⟨Pipeline.mem_restRefs_of main_arg7 (by decide) (by decide), by decide⟩)).trans (V_main_arg7 m c),
    ((h.1 c).2 main_arg8 (Finset.mem_sdiff.2 ⟨Pipeline.mem_restRefs_of main_arg8 (by decide) (by decide), by decide⟩)).trans (V_main_arg8 m c),
    ((h.1 c).2 main_arg9 (Finset.mem_sdiff.2 ⟨Pipeline.mem_restRefs_of main_arg9 (by decide) (by decide), by decide⟩)).trans (V_main_arg9 m c),
    ((h.1 c).2 main_arg10 (Finset.mem_sdiff.2 ⟨Pipeline.mem_restRefs_of main_arg10 (by decide) (by decide), by decide⟩)).trans (V_main_arg10 m c)⟩, h.2⟩) (run_main m ρ)

end Cert.Kernel.Hand

end
-- ==== Proof.Run.Body.lean ====
/- The body of the kernel: the three conditions of the body in closed form, what its stores hold over what it loads,
   and what it means that the body turns given contents of its memrefs into given contents. -/
module

public import proofs.«01_k».proof.Proof.Gen.KernelIdeal.Frame
public import proofs.«01_k».proof.Proof.Gen.KernelIdeal.Skeleton
public import Idealize.ShloMosaic.Lib.VecWindow
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The condition of the body's first conditional: the grid coordinate is 0 (the scratch is cleared). -/
abbrev isFirst (i : grid0.Coords) : Prop :=
  Scalar.cmpi .ne (Scalar.extui (Scalar.cmpi .eq (BitVec.ofNat 32 (i 0).val) 0#32)) 0#32 = 1#1

/-- The condition of the second: the coordinate is below 3 (a block that lies in the array whole). -/
abbrev isInner (i : grid0.Coords) : Prop :=
  Scalar.cmpi .ne (Scalar.extui (Scalar.cmpi .slt (BitVec.ofNat 32 (i 0).val) 3#32)) 0#32 = 1#1

/-- The condition of the third: the coordinate is 3 (the last block, and the head of the network). -/
abbrev isLast (i : grid0.Coords) : Prop := k0_cond3 i = 1#1

/-- The first condition holds at point 0 alone. -/
theorem isFirst_iff : ∀ t : Fin grid0.N, isFirst (grid0.coords t) ↔ t.val = 0 := by decide +kernel

/-- The second holds at the points before point 3. -/
theorem isInner_iff : ∀ t : Fin grid0.N, isInner (grid0.coords t) ↔ t.val < 3 := by decide +kernel

/-- The third holds at point 3 alone. -/
theorem isLast_iff : ∀ t : Fin grid0.N, isLast (grid0.coords t) ↔ t.val = 3 := by decide +kernel

/-! ## What the body's stores hold, over what it loads

`z` is the block of nodes (transposed), `e` the block of weights, `a` and `s` what the two scratch buffers held.
Each is the printed chain of payloads, the parts it is cut into put together again. -/

/-- The weights of a block: the exponentials of the attention scores of the nodes in it, eight equal rows. -/
def weights (x0 : Vec F S32x25600 .f32) (x1 : Vec F S32x32 .f32) (x2 : Vec F S32x1 .f32) (x3 : Vec F S8x32 .f32) :
    FVec F S8x25600 .f32 := k0_pay4 x0 x1 x2 x3

/-- The sums of weighted nodes after a whole block. -/
def avInner (z : FVec F S32x25600 .f32) (e : FVec F S8x25600 .f32) (a : FVec F S32x512 .f32) : FVec F S32x512 .f32 :=
  k0_pay5 (k0_pay71 z e (k0_pay61 z e (k0_pay48 z e (k0_pay39 z e (k0_pay26 z e (k0_pay14 z e a) (k0_pay17 z e))
    (k0_pay28 e) (k0_pay29 z))) (k0_pay51 z) (k0_pay52 e)))

/-- The sums of weights after a whole block. -/
def aeInner (e : FVec F S8x25600 .f32) (s : FVec F S8x512 .f32) : FVec F S8x512 .f32 :=
  k0_pay6 (k0_pay72 e (k0_pay62 e (k0_pay49 e (k0_pay37 e (k0_pay27 e (k0_pay15 e s) (k0_pay16 e)) (k0_pay28 e))
    (k0_pay38 e)) (k0_pay50 e)))

/-- The sums of weighted nodes after the last block, which is cut. -/
def avLast (z : FVec F S32x25600 .f32) (e : FVec F S8x25600 .f32) (a : FVec F S32x512 .f32) : FVec F S32x512 .f32 :=
  k0_pay133 z e (k0_pay127 z e (k0_pay114 z e (k0_pay105 z e (k0_pay92 z e (k0_pay80 z e a) (k0_pay83 z e))
    (k0_pay94 e) (k0_pay95 z))) (k0_pay117 z) (k0_pay118 e))

/-- The sums of weights after the last block. -/
def aeLast (e : FVec F S8x25600 .f32) (s : FVec F S8x512 .f32) : FVec F S8x512 .f32 :=
  k0_pay134 e (k0_pay128 e (k0_pay115 e (k0_pay103 e (k0_pay93 e (k0_pay81 e s) (k0_pay82 e)) (k0_pay94 e))
    (k0_pay104 e)) (k0_pay116 e))

/-- The network's answer from the two finished sums. -/
def answer (a : FVec F S32x512 .f32) (s : FVec F S8x512 .f32) (x4 : Vec F S128x32 .f32) (x5 : Vec F S128x1 .f32)
    (x6 : Vec F S64x128 .f32) (x7 : Vec F S64x1 .f32) (x8 : Vec F S1x64 .f32) (x9 : Vec F S1x1 .f32) : FVec F S1x1 .f32 :=
  k0_pay136 (k0_pay135 s) a x4 x5 x6 x7 x8 x9

/-- The body at coordinates `i`, its inputs holding `x0`, …, `x9`, the result's buffer `y` and the scratch `a` and `s`:
    it hands back the inputs as they were, the result's buffer at `y'` and the scratch at `a'` and `s'`. -/
def Leaves (i : grid0.Coords) (x0 : Vec F S32x25600 .f32) (x1 : Vec F S32x32 .f32) (x2 : Vec F S32x1 .f32) (x3 : Vec F S8x32 .f32)
    (x4 : Vec F S128x32 .f32) (x5 : Vec F S128x1 .f32) (x6 : Vec F S64x128 .f32) (x7 : Vec F S64x1 .f32) (x8 : Vec F S1x64 .f32)
    (x9 : Vec F S1x1 .f32)
    (y : Vec F S1x1 .f32) (a : Vec F S32x512 .f32) (s : Vec F S8x512 .f32)
    (y' : Vec F S1x1 .f32) (a' : Vec F S32x512 .f32) (s' : Vec F S8x512 .f32) : Prop :=
  ∀ (c : Dev nD)
    (arg1 : Memref sig .tc .vmem S32x25600 .f32) (harg1 : arg1.IsWhole)
    (arg2 : Memref sig .tc .vmem S32x32 .f32) (harg2 : arg2.IsWhole)
    (arg3 : Memref sig .tc .vmem S32x1 .f32) (harg3 : arg3.IsWhole)
    (arg4 : Memref sig .tc .vmem S8x32 .f32) (harg4 : arg4.IsWhole)
    (arg5 : Memref sig .tc .vmem S128x32 .f32) (harg5 : arg5.IsWhole)
    (arg6 : Memref sig .tc .vmem S128x1 .f32) (harg6 : arg6.IsWhole)
    (arg7 : Memref sig .tc .vmem S64x128 .f32) (harg7 : arg7.IsWhole)
    (arg8 : Memref sig .tc .vmem S64x1 .f32) (harg8 : arg8.IsWhole)
    (arg9 : Memref sig .tc .vmem S1x64 .f32) (harg9 : arg9.IsWhole)
    (arg10 : Memref sig .tc .vmem S1x1 .f32) (harg10 : arg10.IsWhole)
    (arg11 : Memref sig .tc .vmem S1x1 .f32) (harg11 : arg11.IsWhole)
    (arg12 : Memref sig .tc .vmem S32x512 .f32) (harg12 : arg12.IsWhole)
    (arg13 : Memref sig .tc .vmem S8x512 .f32) (harg13 : arg13.IsWhole)
    (E : Set ℕ) (K : PUnit → sProp 𝕄),
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare y
        ∗ owns (c : Thread nD τ) arg12 fullShare a
        ∗ owns (c : Thread nD τ) arg13 fullShare s
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare y'
            ∗ owns (c : Thread nD τ) arg12 fullShare a'
            ∗ owns (c : Thread nD τ) arg13 fullShare s') -∗ K ⟨⟩))
      ⊢ wp frame (wpE (defs₀ (F := F)) Variants.none c none) E
          (cc0_body i arg1 harg1 arg2 harg2 arg3 harg3 arg4 harg4 arg5 harg5
            arg6 harg6 arg7 harg7 arg8 harg8 arg9 harg9 arg10 harg10
            arg11 harg11 arg12 harg12 arg13 harg13) K

end Cert.KernelIdeal.Hand

end
-- ==== Proof.Run.First.lean ====
/- Point 0: the scratch is cleared and the first block added. -/
module

public import proofs.«01_k».proof.Proof.Run.Body
public import Idealize.ShloMosaic.Lib.VecWindow
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 1000000 in
/-- Point 0: the scratch is cleared and the first block added. -/
theorem leaves_first (i : grid0.Coords) (h0 : isFirst i) (h1 : isInner i) (h2 : ¬ isLast i)
    (x0 : Vec F S32x25600 .f32) (x1 : Vec F S32x32 .f32) (x2 : Vec F S32x1 .f32) (x3 : Vec F S8x32 .f32)
    (x4 : Vec F S128x32 .f32) (x5 : Vec F S128x1 .f32) (x6 : Vec F S64x128 .f32) (x7 : Vec F S64x1 .f32) (x8 : Vec F S1x64 .f32)
    (x9 : Vec F S1x1 .f32)
    (y : Vec F S1x1 .f32) (a : Vec F S32x512 .f32) (s : Vec F S8x512 .f32) :
    Leaves i x0 x1 x2 x3 x4 x5 x6 x7 x8 x9 y a s
      y
      (avInner (k0_pay3 x0) (weights x0 x1 x2 x3) k0_pay1)
      (aeInner (weights x0 x1 x2 x3) k0_pay2) := by
  intro c arg1 harg1 arg2 harg2 arg3 harg3 arg4 harg4 arg5 harg5 arg6 harg6 arg7 harg7 arg8 harg8 arg9 harg9
    arg10 harg10 arg11 harg11 arg12 harg12 arg13 harg13 E K
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  have l0 : View.readAt (Elt F) arg1.view (Rect.unit ![0, 0] ![32, 25600] inb_S32x25600_S32x25600_0_0).toLoadRect (harg1.unread x0) = x0 :=
    (View.readAt_full arg1.view _ _).trans (harg1.read_unread _)
  have l1 : View.readAt (Elt F) arg2.view (Rect.unit ![0, 0] ![32, 32] inb_S32x32_S32x32_0_0).toLoadRect (harg2.unread x1) = x1 :=
    (View.readAt_full arg2.view _ _).trans (harg2.read_unread _)
  have l2 : View.readAt (Elt F) arg3.view (Rect.unit ![0, 0] ![32, 1] inb_S32x1_S32x1_0_0).toLoadRect (harg3.unread x2) = x2 :=
    (View.readAt_full arg3.view _ _).trans (harg3.read_unread _)
  have l3 : View.readAt (Elt F) arg4.view (Rect.unit ![0, 0] ![8, 32] inb_S8x32_S8x32_0_0).toLoadRect (harg4.unread x3) = x3 :=
    (View.readAt_full arg4.view _ _).trans (harg4.read_unread _)
  have l11 : View.readAt (Elt F) arg12.view (Rect.unit ![0, 0] ![32, 512] inb_S32x512_S32x512_0_0).toLoadRect (harg12.unread a) = a :=
    (View.readAt_full arg12.view _ _).trans (harg12.read_unread _)
  have l12 : View.readAt (Elt F) arg13.view (Rect.unit ![0, 0] ![8, 512] inb_S8x512_S8x512_0_0).toLoadRect (harg13.unread s) = s :=
    (View.readAt_full arg13.view _ _).trans (harg13.read_unread _)
  have c12 : ∀ w L, arg12.view.readCov (Val := Elt F) (⟨(Rect.unit ![0, 0] ![32, 512] inb_S32x512_S32x512_0_0), w⟩ :: L) (Rect.unit ![0, 0] ![32, 512] inb_S32x512_S32x512_0_0).toLoadRect = w :=
    fun w L => View.readCov_full arg12.view _ _ w L
  have c13 : ∀ w L, arg13.view.readCov (Val := Elt F) (⟨(Rect.unit ![0, 0] ![8, 512] inb_S8x512_S8x512_0_0), w⟩ :: L) (Rect.unit ![0, 0] ![8, 512] inb_S8x512_S8x512_0_0).toLoadRect = w :=
    fun w L => View.readCov_full arg13.view _ _ w L
  sl_exec (disch := first | sl_exact h0 | sl_exact h1 | sl_exact h2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact View.read_writes_full arg12.view _ _ _ _
  iexists _; isplitr; swap; · iexact H12
  ipureintro; exact View.read_writes_full arg13.view _ _ _ _

end Cert.KernelIdeal.Hand

end
-- ==== Proof.Run.Inner.lean ====
/- Points 1 and 2: a block is added to the scratch. -/
module

public import proofs.«01_k».proof.Proof.Run.Body
public import Idealize.ShloMosaic.Lib.VecWindow
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 1000000 in
/-- Points 1 and 2: a block is added to the scratch. -/
theorem leaves_inner (i : grid0.Coords) (h0 : ¬ isFirst i) (h1 : isInner i) (h2 : ¬ isLast i)
    (x0 : Vec F S32x25600 .f32) (x1 : Vec F S32x32 .f32) (x2 : Vec F S32x1 .f32) (x3 : Vec F S8x32 .f32)
    (x4 : Vec F S128x32 .f32) (x5 : Vec F S128x1 .f32) (x6 : Vec F S64x128 .f32) (x7 : Vec F S64x1 .f32) (x8 : Vec F S1x64 .f32)
    (x9 : Vec F S1x1 .f32)
    (y : Vec F S1x1 .f32) (a : Vec F S32x512 .f32) (s : Vec F S8x512 .f32) :
    Leaves i x0 x1 x2 x3 x4 x5 x6 x7 x8 x9 y a s
      y
      (avInner (k0_pay3 x0) (weights x0 x1 x2 x3) a)
      (aeInner (weights x0 x1 x2 x3) s) := by
  intro c arg1 harg1 arg2 harg2 arg3 harg3 arg4 harg4 arg5 harg5 arg6 harg6 arg7 harg7 arg8 harg8 arg9 harg9
    arg10 harg10 arg11 harg11 arg12 harg12 arg13 harg13 E K
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  have l0 : View.readAt (Elt F) arg1.view (Rect.unit ![0, 0] ![32, 25600] inb_S32x25600_S32x25600_0_0).toLoadRect (harg1.unread x0) = x0 :=
    (View.readAt_full arg1.view _ _).trans (harg1.read_unread _)
  have l1 : View.readAt (Elt F) arg2.view (Rect.unit ![0, 0] ![32, 32] inb_S32x32_S32x32_0_0).toLoadRect (harg2.unread x1) = x1 :=
    (View.readAt_full arg2.view _ _).trans (harg2.read_unread _)
  have l2 : View.readAt (Elt F) arg3.view (Rect.unit ![0, 0] ![32, 1] inb_S32x1_S32x1_0_0).toLoadRect (harg3.unread x2) = x2 :=
    (View.readAt_full arg3.view _ _).trans (harg3.read_unread _)
  have l3 : View.readAt (Elt F) arg4.view (Rect.unit ![0, 0] ![8, 32] inb_S8x32_S8x32_0_0).toLoadRect (harg4.unread x3) = x3 :=
    (View.readAt_full arg4.view _ _).trans (harg4.read_unread _)
  have l11 : View.readAt (Elt F) arg12.view (Rect.unit ![0, 0] ![32, 512] inb_S32x512_S32x512_0_0).toLoadRect (harg12.unread a) = a :=
    (View.readAt_full arg12.view _ _).trans (harg12.read_unread _)
  have l12 : View.readAt (Elt F) arg13.view (Rect.unit ![0, 0] ![8, 512] inb_S8x512_S8x512_0_0).toLoadRect (harg13.unread s) = s :=
    (View.readAt_full arg13.view _ _).trans (harg13.read_unread _)
  have c12 : ∀ w L, arg12.view.readCov (Val := Elt F) (⟨(Rect.unit ![0, 0] ![32, 512] inb_S32x512_S32x512_0_0), w⟩ :: L) (Rect.unit ![0, 0] ![32, 512] inb_S32x512_S32x512_0_0).toLoadRect = w :=
    fun w L => View.readCov_full arg12.view _ _ w L
  have c13 : ∀ w L, arg13.view.readCov (Val := Elt F) (⟨(Rect.unit ![0, 0] ![8, 512] inb_S8x512_S8x512_0_0), w⟩ :: L) (Rect.unit ![0, 0] ![8, 512] inb_S8x512_S8x512_0_0).toLoadRect = w :=
    fun w L => View.readCov_full arg13.view _ _ w L
  sl_exec (disch := first | sl_exact h0 | sl_exact h1 | sl_exact h2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact View.read_writes_full arg12.view _ _ _ _
  iexists _; isplitr; swap; · iexact H12
  ipureintro; exact View.read_writes_full arg13.view _ _ _ _

end Cert.KernelIdeal.Hand

end
-- ==== Proof.Run.Last.lean ====
/- Point 3: the last block is added and the answer computed. -/
module

public import proofs.«01_k».proof.Proof.Run.Body
public import Idealize.ShloMosaic.Lib.VecWindow
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

set_option maxHeartbeats 1000000 in
/-- Point 3: the last block is added and the answer computed. -/
theorem leaves_last (i : grid0.Coords) (h0 : ¬ isFirst i) (h1 : ¬ isInner i) (h2 : isLast i)
    (x0 : Vec F S32x25600 .f32) (x1 : Vec F S32x32 .f32) (x2 : Vec F S32x1 .f32) (x3 : Vec F S8x32 .f32)
    (x4 : Vec F S128x32 .f32) (x5 : Vec F S128x1 .f32) (x6 : Vec F S64x128 .f32) (x7 : Vec F S64x1 .f32) (x8 : Vec F S1x64 .f32)
    (x9 : Vec F S1x1 .f32)
    (y : Vec F S1x1 .f32) (a : Vec F S32x512 .f32) (s : Vec F S8x512 .f32) :
    Leaves i x0 x1 x2 x3 x4 x5 x6 x7 x8 x9 y a s
      (answer (avLast (k0_pay3 x0) (weights x0 x1 x2 x3) a) (aeLast (weights x0 x1 x2 x3) s) x4 x5 x6 x7 x8 x9)
      (avLast (k0_pay3 x0) (weights x0 x1 x2 x3) a)
      (aeLast (weights x0 x1 x2 x3) s) := by
  intro c arg1 harg1 arg2 harg2 arg3 harg3 arg4 harg4 arg5 harg5 arg6 harg6 arg7 harg7 arg8 harg8 arg9 harg9
    arg10 harg10 arg11 harg11 arg12 harg12 arg13 harg13 E K
  simp only [cc0_body_eq_skeleton]; unfold cc0_body_skel
  simp only [k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  have l0 : View.readAt (Elt F) arg1.view (Rect.unit ![0, 0] ![32, 25600] inb_S32x25600_S32x25600_0_0).toLoadRect (harg1.unread x0) = x0 :=
    (View.readAt_full arg1.view _ _).trans (harg1.read_unread _)
  have l1 : View.readAt (Elt F) arg2.view (Rect.unit ![0, 0] ![32, 32] inb_S32x32_S32x32_0_0).toLoadRect (harg2.unread x1) = x1 :=
    (View.readAt_full arg2.view _ _).trans (harg2.read_unread _)
  have l2 : View.readAt (Elt F) arg3.view (Rect.unit ![0, 0] ![32, 1] inb_S32x1_S32x1_0_0).toLoadRect (harg3.unread x2) = x2 :=
    (View.readAt_full arg3.view _ _).trans (harg3.read_unread _)
  have l3 : View.readAt (Elt F) arg4.view (Rect.unit ![0, 0] ![8, 32] inb_S8x32_S8x32_0_0).toLoadRect (harg4.unread x3) = x3 :=
    (View.readAt_full arg4.view _ _).trans (harg4.read_unread _)
  have l4 : View.readAt (Elt F) arg5.view (Rect.unit ![0, 0] ![128, 32] inb_S128x32_S128x32_0_0).toLoadRect (harg5.unread x4) = x4 :=
    (View.readAt_full arg5.view _ _).trans (harg5.read_unread _)
  have l5 : View.readAt (Elt F) arg6.view (Rect.unit ![0, 0] ![128, 1] inb_S128x1_S128x1_0_0).toLoadRect (harg6.unread x5) = x5 :=
    (View.readAt_full arg6.view _ _).trans (harg6.read_unread _)
  have l6 : View.readAt (Elt F) arg7.view (Rect.unit ![0, 0] ![64, 128] inb_S64x128_S64x128_0_0).toLoadRect (harg7.unread x6) = x6 :=
    (View.readAt_full arg7.view _ _).trans (harg7.read_unread _)
  have l7 : View.readAt (Elt F) arg8.view (Rect.unit ![0, 0] ![64, 1] inb_S64x1_S64x1_0_0).toLoadRect (harg8.unread x7) = x7 :=
    (View.readAt_full arg8.view _ _).trans (harg8.read_unread _)
  have l8 : View.readAt (Elt F) arg9.view (Rect.unit ![0, 0] ![1, 64] inb_S1x64_S1x64_0_0).toLoadRect (harg9.unread x8) = x8 :=
    (View.readAt_full arg9.view _ _).trans (harg9.read_unread _)
  have l9 : View.readAt (Elt F) arg10.view (Rect.unit ![0, 0] ![1, 1] inb_S1x1_S1x1_0_0).toLoadRect (harg10.unread x9) = x9 :=
    (View.readAt_full arg10.view _ _).trans (harg10.read_unread _)
  have l11 : View.readAt (Elt F) arg12.view (Rect.unit ![0, 0] ![32, 512] inb_S32x512_S32x512_0_0).toLoadRect (harg12.unread a) = a :=
    (View.readAt_full arg12.view _ _).trans (harg12.read_unread _)
  have l12 : View.readAt (Elt F) arg13.view (Rect.unit ![0, 0] ![8, 512] inb_S8x512_S8x512_0_0).toLoadRect (harg13.unread s) = s :=
    (View.readAt_full arg13.view _ _).trans (harg13.read_unread _)
  have c12 : ∀ w L, arg12.view.readCov (Val := Elt F) (⟨(Rect.unit ![0, 0] ![32, 512] inb_S32x512_S32x512_0_0), w⟩ :: L) (Rect.unit ![0, 0] ![32, 512] inb_S32x512_S32x512_0_0).toLoadRect = w :=
    fun w L => View.readCov_full arg12.view _ _ w L
  have c13 : ∀ w L, arg13.view.readCov (Val := Elt F) (⟨(Rect.unit ![0, 0] ![8, 512] inb_S8x512_S8x512_0_0), w⟩ :: L) (Rect.unit ![0, 0] ![8, 512] inb_S8x512_S8x512_0_0).toLoadRect = w :=
    fun w L => View.readCov_full arg13.view _ _ w L
  sl_exec (disch := first | sl_exact h0 | sl_exact h1 | sl_exact h2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact View.read_writes_full arg11.view _ _ _ _
  isplitl [H11]
  · iexists _; isplitr; swap; · iexact H11
    ipureintro; exact View.read_writes_full arg12.view _ _ _ _
  iexists _; isplitr; swap; · iexact H12
  ipureintro; exact View.read_writes_full arg13.view _ _ _ _

end Cert.KernelIdeal.Hand

end
-- ==== Proof.Run.Chunks.lean ====
/- The two accumulations of a block, read as what they are: 512 lanes at a time, one chunk after another.

   `addAv` and `addAe` add one chunk; `over` runs a step for the first `n` chunks. The printed chains of payloads are
   these runs, by unfolding. -/
module

public import proofs.«01_k».proof.Proof.Run.Body
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

/-- Chunk `n` of the nodes lies in the block. -/
theorem slicesZ (n : ℕ) (h : n < 50) : S32x25600.Slices ![0, 512 * n] S32x512 :=
  ⟨rfl, fun a => by
    match a with
    | ⟨0, _⟩ => exact Nat.le_refl 32
    | ⟨1, _⟩ => show 512 * n + 512 ≤ 25600; omega⟩

/-- Chunk `n` of the weights lies in the block. -/
theorem slicesE (n : ℕ) (h : n < 50) : S8x25600.Slices ![0, 512 * n] S8x512 :=
  ⟨rfl, fun a => by
    match a with
    | ⟨0, _⟩ => exact Nat.le_refl 8
    | ⟨1, _⟩ => show 512 * n + 512 ≤ 25600; omega⟩

/-- Chunk `n` of the weights. -/
def partE (e : FVec F S8x25600 .f32) (n : ℕ) (h : n < 50) : FVec F S8x512 .f32 :=
  extractStridedSlice S8x512 ![0, 512 * n] e (slicesE n h)

/-- The weighted nodes of a chunk, its weights `w`. -/
def weighted (z : FVec F S32x25600 .f32) (w : FVec F S8x512 .f32) (n : ℕ) (h : n < 50) : FVec F S32x512 .f32 :=
  mulf (extractStridedSlice S32x512 ![0, 512 * n] z (slicesZ n h))
    (broadcastTo S32x512 (extractStridedSlice S1x512 ![0, 0] w slices_S8x512_o0_0_S1x512) broadcasts_S1x512_S32x512)

/-- Chunk `n` added to the sums of weighted nodes. -/
def addAv (z : FVec F S32x25600 .f32) (e : FVec F S8x25600 .f32) (n : ℕ) (h : n < 50) (a : FVec F S32x512 .f32) :
    FVec F S32x512 .f32 :=
  addf a (weighted z (partE e n h) n h)

/-- Chunk `n` added to the sums of weights. -/
def addAe (e : FVec F S8x25600 .f32) (n : ℕ) (h : n < 50) (s : FVec F S8x512 .f32) : FVec F S8x512 .f32 :=
  addf s (partE e n h)

/-- A step run for the chunks `0`, …, `n - 1` in turn. -/
def over {A : Type} (f : (n : ℕ) → n < 50 → A → A) : (n : ℕ) → n ≤ 50 → A → A
  | 0, _, a => a
  | n + 1, h, a => f n h (over f n (Nat.le_of_succ_le h) a)

/-- A whole block's weighted nodes are added chunk by chunk, all fifty. -/
theorem avInner_eq (z : FVec F S32x25600 .f32) (e : FVec F S8x25600 .f32) (a : FVec F S32x512 .f32) :
    avInner z e a = over (addAv z e) 50 (le_refl 50) a := by
  unfold avInner k0_pay5
  exact (shapeCast_self _ _).trans rfl

/-- A whole block's weights are added chunk by chunk, all fifty. -/
theorem aeInner_eq (e : FVec F S8x25600 .f32) (s : FVec F S8x512 .f32) :
    aeInner e s = over (addAe e) 50 (le_refl 50) s := by
  unfold aeInner k0_pay6
  exact (shapeCast_self _ _).trans rfl

/-- The last block's 46th chunk of weights: its first 160 lanes, the others zero. -/
def cutE (e : FVec F S8x25600 .f32) : FVec F S8x512 .f32 :=
  select (cmpi .slt (iota .tc S8x512 32 [1] iota_S8x512_d1_w32) (broadcast S8x512 160#32)) (partE e 45 (by omega))
    (broadcast S8x512 (Scalar.ofBits .f32 0x00000000#32))

/-- The last block's 46th chunk of weighted nodes: its first 160 lanes, the others zero. -/
def cutV (z : FVec F S32x25600 .f32) (e : FVec F S8x25600 .f32) : FVec F S32x512 .f32 :=
  select (cmpi .slt (iota .tc S32x512 32 [1] iota_S32x512_d1_w32) (broadcast S32x512 160#32)) (weighted z (cutE e) 45 (by omega))
    (broadcast S32x512 (Scalar.ofBits .f32 0x00000000#32))

/-- The last block's weighted nodes: forty-five chunks and the cut one. -/
theorem avLast_eq (z : FVec F S32x25600 .f32) (e : FVec F S8x25600 .f32) (a : FVec F S32x512 .f32) :
    avLast z e a = addf (over (addAv z e) 45 (by omega) a) (cutV z e) := by
  unfold avLast k0_pay133
  exact (shapeCast_self _ _).trans rfl

/-- The last block's weights: forty-five chunks and the cut one. -/
theorem aeLast_eq (e : FVec F S8x25600 .f32) (s : FVec F S8x512 .f32) :
    aeLast e s = addf (over (addAe e) 45 (by omega) s) (cutE e) := by
  unfold aeLast k0_pay134
  exact (shapeCast_self _ _).trans rfl

end Cert.KernelIdeal.Hand

end
-- ==== Proof.Run.Sums.lean ====
/- Over the reals, the body's accumulations read at an index: each lane of the scratch gains the sum, over the chunks, of
   that lane's terms; and the weights of a block read at a node.

   A column of the block past `23200` takes no part in the last block's sums, which is why whatever lies beyond the array's
   end cannot reach the answer. -/
module

public import proofs.«01_k».proof.Proof.Run.Chunks
public import Idealize.ShloMosaic.Lib.MatmulPlain
public import Idealize.ShloMosaic.Lib.ValueLayout
public import Idealize.ShloMosaic.Lib.ValueIdx
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- Lane `l` of chunk `n`, as a column of the block. -/
def lane (n : ℕ) (h : n < 50) (l : Fin 512) : Fin 25600 := ⟨512 * n + l.val, by have := l.isLt; omega⟩

/-- A chunk of weights at a lane is the block's weight there. -/
theorem partE_apply (e : FVec Ideal S8x25600 .f32) (n : ℕ) (h : n < 50) (s : Fin 8) (l : Fin 512) :
    partE e n h (ix2 s l) = e (ix2 s (lane n h l)) := by
  unfold partE
  refine extractStridedSlice_apply _ _ _ _ _ fun a => ?_
  match a with
  | ⟨0, _⟩ => exact (Nat.zero_add _).symm
  | ⟨1, _⟩ => rfl

/-- A chunk's weighted nodes at a lane. -/
theorem weighted_apply (z : FVec Ideal S32x25600 .f32) (w : FVec Ideal S8x512 .f32) (n : ℕ) (h : n < 50) (r : Fin 32) (l : Fin 512) :
    weighted z w n h (ix2 r l) = z (ix2 r (lane n h l)) * w (ix2 0 l) := by
  unfold weighted
  have h1 : extractStridedSlice S32x512 ![0, 512 * n] z (slicesZ n h) (ix2 r l) = z (ix2 r (lane n h l)) := by
    refine extractStridedSlice_apply _ _ _ _ _ fun a => ?_
    match a with
    | ⟨0, _⟩ => exact (Nat.zero_add _).symm
    | ⟨1, _⟩ => rfl
  have h2 : broadcastTo S32x512 (extractStridedSlice S1x512 ![0, 0] w slices_S8x512_o0_0_S1x512) broadcasts_S1x512_S32x512 (ix2 r l)
      = w (ix2 0 l) := by
    refine (broadcastTo_1b_ab_apply _ broadcasts_S1x512_S32x512 r l).trans ?_
    refine extractStridedSlice_apply _ _ _ _ _ fun a => ?_
    match a with
    | ⟨0, _⟩ => rfl
    | ⟨1, _⟩ => exact (Nat.zero_add _).symm
  show extractStridedSlice S32x512 ![0, 512 * n] z (slicesZ n h) (ix2 r l) * _ = _
  rw [h1, h2]

/-- `n` chunks of weighted nodes, added to what was there. -/
theorem over_addAv_apply (z : FVec Ideal S32x25600 .f32) (e : FVec Ideal S8x25600 .f32) (a : FVec Ideal S32x512 .f32)
    (r : Fin 32) (l : Fin 512) (n : ℕ) (h : n ≤ 50) :
    over (addAv z e) n h a (ix2 r l)
      = a (ix2 r l) + ∑ k : Fin n, z (ix2 r (lane k (by omega) l)) * e (ix2 0 (lane k (by omega) l)) := by
  induction n with
  | zero => simp [over]
  | succ n ih =>
    rw [Fin.sum_univ_castSucc, ← add_assoc]
    show over (addAv z e) n _ a (ix2 r l) + weighted z (partE e n _) n _ (ix2 r l) = _
    rw [ih, weighted_apply, partE_apply]
    rfl

/-- `n` chunks of weights, added to what was there. -/
theorem over_addAe_apply (e : FVec Ideal S8x25600 .f32) (a : FVec Ideal S8x512 .f32)
    (s : Fin 8) (l : Fin 512) (n : ℕ) (h : n ≤ 50) :
    over (addAe e) n h a (ix2 s l) = a (ix2 s l) + ∑ k : Fin n, e (ix2 s (lane k (by omega) l)) := by
  induction n with
  | zero => simp [over]
  | succ n ih =>
    rw [Fin.sum_univ_castSucc, ← add_assoc]
    show over (addAe e) n _ a (ix2 s l) + partE e n _ (ix2 s l) = _
    rw [ih, partE_apply]
    rfl

/-- A lane's number, as the program writes it, is below 160 exactly when it is. -/
theorem lane_lt (l : Fin 512) : IntOp.cmpi .slt (BitVec.ofNat 32 l.val) 160#32 = if l.val < 160 then 1#1 else 0#1 := by
  revert l; decide +kernel

/-- The cut chunk of weights at a lane. -/
theorem cutE_apply (e : FVec Ideal S8x25600 .f32) (s : Fin 8) (l : Fin 512) :
    cutE e (ix2 s l) = if l.val < 160 then e (ix2 s (lane 45 (by omega) l)) else 0 := by
  have hi : iota .tc S8x512 32 [1] iota_S8x512_d1_w32 (ix2 s l) = BitVec.ofNat 32 l.val := by
    simp [iota]
  unfold cutE
  rw [select_apply, partE_apply]
  show Scalar.select (IntOp.cmpi .slt (iota .tc S8x512 32 [1] iota_S8x512_d1_w32 (ix2 s l)) 160#32) _ _ = _
  rw [hi, lane_lt]
  split
  · rfl
  · exact Ideal.ofBits_zero_f32

/-- The cut chunk of weighted nodes at a lane. -/
theorem cutV_apply (z : FVec Ideal S32x25600 .f32) (e : FVec Ideal S8x25600 .f32) (r : Fin 32) (l : Fin 512) :
    cutV z e (ix2 r l) = if l.val < 160 then z (ix2 r (lane 45 (by omega) l)) * e (ix2 0 (lane 45 (by omega) l)) else 0 := by
  have hi : iota .tc S32x512 32 [1] iota_S32x512_d1_w32 (ix2 r l) = BitVec.ofNat 32 l.val := by
    simp [iota]
  unfold cutV
  rw [select_apply, weighted_apply, cutE_apply]
  show Scalar.select (IntOp.cmpi .slt (iota .tc S32x512 32 [1] iota_S32x512_d1_w32 (ix2 r l)) 160#32) _ _ = _
  rw [hi, lane_lt]
  split
  · rfl
  · exact Ideal.ofBits_zero_f32

/-- A node's score before the exponential, from the node's features `v`: the attention network's second layer of the
    hyperbolic tangents of its first. -/
def score (x1 : FVec Ideal S32x32 .f32) (x2 : FVec Ideal S32x1 .f32) (x3 : FVec Ideal S8x32 .f32) (v : Fin 32 → EReal)
    (s : Fin 8) : EReal :=
  ∑ k : Fin 32, x3 (ix2 s k) * Ideal.tanh (∑ j : Fin 32, x1 (ix2 k j) * v j + x2 (ix2 k 0))

/-- A plain matrix product into zero, at an index. -/
theorem plain_zero {M K N : ℕ} (lhs : FVec Ideal ⟨2, ![M, K]⟩ .f32) (rhs : FVec Ideal ⟨2, ![K, N]⟩ .f32) (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

/-- A column broadcast over columns, at an index. -/
theorem broadcastTo_column {α : Type} {a b : ℕ} (v : (⟨2, ![a, 1]⟩ : Shape).Idx → α) (h : (⟨2, ![a, 1]⟩ : Shape).Broadcasts ⟨2, ![a, b]⟩)
    (ha : a ≠ 1) (r : Fin a) (c : Fin b) : broadcastTo ⟨2, ![a, b]⟩ v h (ix2 r c) = v (ix2 r 0) := by
  refine broadcastTo_apply _ _ _ _ fun d => ?_
  match d with
  | ⟨0, _⟩ => exact (if_neg ha).symm
  | ⟨1, _⟩ => rfl

/-- The weight of a node is the exponential of its score, and reads nothing but that node. -/
theorem weights_apply (x0 : FVec Ideal S32x25600 .f32) (x1 : FVec Ideal S32x32 .f32) (x2 : FVec Ideal S32x1 .f32)
    (x3 : FVec Ideal S8x32 .f32) (s : Fin 8) (n : Fin 25600) :
    (weights x0 x1 x2 x3 : FVec Ideal S8x25600 .f32) (ix2 s n) = Ideal.exp (score x1 x2 x3 (fun j => x0 (ix2 j n)) s) := by
  unfold weights k0_pay4 k0_pay3 score
  simp only [shapeCast_self]
  refine congrArg Ideal.exp ?_
  refine (plain_zero x3 _ s n).trans (Finset.sum_congr rfl fun k _ => ?_)
  refine congrArg (fun y => x3 (ix2 s k) * Ideal.tanh y) ?_
  exact congrArg₂ (· + ·) (plain_zero x1 x0 k n) (broadcastTo_column x2 _ (by decide) k n)

/-- Two blocks agreeing below column 23200 end the last point with the same weighted sums. -/
theorem avLast_congr (x0 x0' : FVec Ideal S32x25600 .f32) (x1 : FVec Ideal S32x32 .f32) (x2 : FVec Ideal S32x1 .f32)
    (x3 : FVec Ideal S8x32 .f32) (a : FVec Ideal S32x512 .f32)
    (hx : ∀ (j : Fin 32) (n : Fin 25600), n.val < 23200 → x0 (ix2 j n) = x0' (ix2 j n)) :
    avLast (k0_pay3 x0) (weights x0 x1 x2 x3) a = avLast (k0_pay3 x0') (weights x0' x1 x2 x3) a := by
  have hw : ∀ (s : Fin 8) (n : Fin 25600), n.val < 23200 →
      (weights x0 x1 x2 x3 : FVec Ideal S8x25600 .f32) (ix2 s n) = (weights x0' x1 x2 x3 : FVec Ideal S8x25600 .f32) (ix2 s n) := by
    intro s n hn
    rw [weights_apply, weights_apply]
    simp only [hx _ n hn]
  simp only [show ∀ x : FVec Ideal S32x25600 .f32, k0_pay3 x = x from fun x => shapeCast_self x _]
  rw [avLast_eq, avLast_eq]
  funext i
  obtain ⟨r, l, rfl⟩ : ∃ (r : Fin 32) (l : Fin 512), i = ix2 r l := ⟨_, _, eq_ix2 i⟩
  show over _ 45 _ a (ix2 r l) + cutV _ _ (ix2 r l) = over _ 45 _ a (ix2 r l) + cutV _ _ (ix2 r l)
  rw [over_addAv_apply, over_addAv_apply, cutV_apply, cutV_apply]
  congr 1
  · refine congrArg (a (ix2 r l) + ·) (Finset.sum_congr rfl fun k _ => ?_)
    have hk : (lane k (by omega) l).val < 23200 := by
      have := k.isLt; have := l.isLt; show 512 * k.val + l.val < 23200; omega
    rw [hx _ _ hk, hw _ _ hk]
  · split
    · have hk : (lane 45 (by omega) l).val < 23200 := by show 512 * 45 + l.val < 23200; omega
      rw [hx _ _ hk, hw _ _ hk]
    · rfl

/-- Two blocks agreeing below column 23200 end the last point with the same sums of weights. -/
theorem aeLast_congr (x0 x0' : FVec Ideal S32x25600 .f32) (x1 : FVec Ideal S32x32 .f32) (x2 : FVec Ideal S32x1 .f32)
    (x3 : FVec Ideal S8x32 .f32) (a : FVec Ideal S8x512 .f32)
    (hx : ∀ (j : Fin 32) (n : Fin 25600), n.val < 23200 → x0 (ix2 j n) = x0' (ix2 j n)) :
    aeLast (weights x0 x1 x2 x3) a = aeLast (weights x0' x1 x2 x3) a := by
  have hw : ∀ (s : Fin 8) (n : Fin 25600), n.val < 23200 →
      (weights x0 x1 x2 x3 : FVec Ideal S8x25600 .f32) (ix2 s n) = (weights x0' x1 x2 x3 : FVec Ideal S8x25600 .f32) (ix2 s n) := by
    intro s n hn
    rw [weights_apply, weights_apply]
    simp only [hx _ n hn]
  rw [aeLast_eq, aeLast_eq]
  funext i
  obtain ⟨r, l, rfl⟩ : ∃ (r : Fin 8) (l : Fin 512), i = ix2 r l := ⟨_, _, eq_ix2 i⟩
  show over _ 45 _ a (ix2 r l) + cutE _ (ix2 r l) = over _ 45 _ a (ix2 r l) + cutE _ (ix2 r l)
  rw [over_addAe_apply, over_addAe_apply, cutE_apply, cutE_apply]
  congr 1
  · refine congrArg (a (ix2 r l) + ·) (Finset.sum_congr rfl fun k _ => ?_)
    have hk : (lane k (by omega) l).val < 23200 := by
      have := k.isLt; have := l.isLt; show 512 * k.val + l.val < 23200; omega
    rw [hw _ _ hk]
  · split
    · have hk : (lane 45 (by omega) l).val < 23200 := by show 512 * 45 + l.val < 23200; omega
      rw [hw _ _ hk]
    · rfl

end Cert.KernelIdeal.Hand

end
-- ==== Proof.Run.Launch.lean ====
/- The run of the kernel over the reals: what its scratch holds between the grid points, the pipeline's obligation for the
   body at every point, and the run of @main.

   The first window's last block overhangs the array: its buffer holds the nodes below the array's end and something
   nothing names past it. The body's sums do not see the latter (`node_agree`, `avLast_congr`, `aeLast_congr`), so what
   they hold is stated with zeros there. -/
module

public import proofs.«01_k».proof.Proof.Run.First
public import proofs.«01_k».proof.Proof.Run.Inner
public import proofs.«01_k».proof.Proof.Run.Last
public import proofs.«01_k».proof.Proof.Run.Sums
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The grid has four points. -/
theorem point_lt (t : Fin cfg0.N) : t.val < 4 := lt_of_lt_of_eq t.isLt (show cfg0.N = 4 from N_0)

/-! ## The block of nodes -/

/-- The buffer of nodes at point `t`: the block below the array's end, `d` past it. -/
def nodesOver (c : Dev nD) (t : Fin cfg0.N) (d : Vec Ideal S32x25600 .f32) : Vec Ideal S32x25600 .f32 :=
  win0_0.fill (grid0.coords t) d (iblk m c 0 t)

/-- The same with zeros past the array's end. -/
def nodes (c : Dev nD) (t : Fin cfg0.N) : Vec Ideal S32x25600 .f32 := nodesOver m c t fun _ => (0 : EReal)

/-- Which columns of a block lie in the array: all at the points before the last, those below 23200 at the last. -/
theorem xsize0 : ∀ t : Fin grid0.N, ∀ a : Fin 2,
    win0_0.xsize (grid0.coords t) a = if a = 0 then 32 else if t.val < 3 then 25600 else 23200 := by decide +kernel

/-- A column inside the array does not depend on what lies past its end. -/
theorem node_agree (c : Dev nD) (t : Fin cfg0.N) (d d' : Vec Ideal S32x25600 .f32) (j : Fin 32) (n : Fin 25600)
    (h : t.val < 3 ∨ n.val < 23200) : nodesOver m c t d (ix2 j n) = nodesOver m c t d' (ix2 j n) := by
  have hm : win0_0.moved (grid0.coords t) (ix2 j n) = true := (win0_0.moved_iff _ _).mpr fun a => by
    rw [xsize0 t a]
    match a with
    | ⟨0, _⟩ => exact j.isLt
    | ⟨1, _⟩ =>
      show n.val < if t.val < 3 then 25600 else 23200
      have := n.isLt
      split <;> omega
  unfold nodesOver Window.fill
  rw [dif_pos hm, dif_pos hm]

/-- Before the last point the buffer of nodes is one thing. -/
theorem nodesOver_eq (c : Dev nD) (t : Fin cfg0.N) (ht : t.val < 3) (d : Vec Ideal S32x25600 .f32) :
    nodesOver m c t d = nodes m c t := by
  funext i
  obtain ⟨j, n, rfl⟩ : ∃ (j : Fin 32) (n : Fin 25600), i = ix2 j n := ⟨_, _, eq_ix2 i⟩
  exact node_agree m c t _ _ j n (.inl ht)

/-! ## What the scratch holds -/

/-- The weights of the block of point `t`. -/
def blockWeights (c : Dev nD) (t : Fin cfg0.N) : FVec Ideal S8x25600 .f32 :=
  weights (nodes m c t) (iblk m c 1 t) (iblk m c 2 t) (iblk m c 3 t)

/-- What the scratch holds after point `t`, from what it held before. -/
def stepAt (c : Dev nD) (t : Fin cfg0.N) (a : Vec Ideal S32x512 .f32 × Vec Ideal S8x512 .f32) :
    Vec Ideal S32x512 .f32 × Vec Ideal S8x512 .f32 :=
  if t.val < 3 then (avInner (k0_pay3 (nodes m c t)) (blockWeights m c t) a.1, aeInner (blockWeights m c t) a.2)
  else (avLast (k0_pay3 (nodes m c t)) (blockWeights m c t) a.1, aeLast (blockWeights m c t) a.2)

/-- What the scratch holds after point `n`: point 0 starts from zeros. -/
def scratchAfter (c : Dev nD) : (n : ℕ) → n < cfg0.N → Vec Ideal S32x512 .f32 × Vec Ideal S8x512 .f32
  | 0, h => stepAt m c ⟨0, h⟩ ((k0_pay1 : FVec Ideal S32x512 .f32), (k0_pay2 : FVec Ideal S8x512 .f32))
  | n + 1, h => stepAt m c ⟨n + 1, h⟩ (scratchAfter c n (by omega))

/-- What the last point writes to the result's buffer. -/
def answerAt (c : Dev nD) (t : Fin cfg0.N) : Vec Ideal S1x1 .f32 :=
  answer (scratchAfter m c t.val t.isLt).1 (scratchAfter m c t.val t.isLt).2 (iblk m c 4 t) (iblk m c 5 t) (iblk m c 6 t) (iblk m c 7 t) (iblk m c 8 t) (iblk m c 9 t)

/-- What the result's buffer holds after point `t`, having held `y`. -/
def resultAfter (c : Dev nD) (t : Fin cfg0.N) (y : Vec Ideal S1x1 .f32) : Vec Ideal S1x1 .f32 :=
  if t.val < 3 then y else answerAt m c t

/-- Before point `n` the scratch holds what the point before left; before point 0, anything. -/
def Was (c : Dev nD) (n : ℕ) (a : Vec Ideal S32x512 .f32) (s : Vec Ideal S8x512 .f32) : Prop :=
  ∀ (k : ℕ) (h : k < cfg0.N), n = k + 1 → (a, s) = scratchAfter m c k h

/-- The body at point `t`, whatever lies past the array's end. -/
theorem leaves_at (c : Dev nD) (t : Fin cfg0.N) (d : Vec Ideal S32x25600 .f32) (y : Vec Ideal S1x1 .f32)
    (a : Vec Ideal S32x512 .f32) (s : Vec Ideal S8x512 .f32) (h : Was m c t.val a s) :
    Leaves (grid0.coords t) (nodesOver m c t d) (iblk m c 1 t) (iblk m c 2 t) (iblk m c 3 t) (iblk m c 4 t) (iblk m c 5 t) (iblk m c 6 t) (iblk m c 7 t) (iblk m c 8 t) (iblk m c 9 t)
      y a s (resultAfter m c t y) (scratchAfter m c t.val t.isLt).1 (scratchAfter m c t.val t.isLt).2 := by
  have hN := point_lt t
  by_cases h0 : t.val = 0
  · have ht : t.val < 3 := by omega
    obtain ⟨n, hn⟩ := t
    subst h0
    rw [nodesOver_eq m c _ ht]
    exact leaves_first _ ((isFirst_iff _).2 rfl) ((isInner_iff _).2 ht) (fun h => by have := (isLast_iff _).1 h; omega) _ _ _ _ _ _ _ _ _ _ y a s
  · obtain ⟨n, hn⟩ := t
    obtain ⟨k, rfl⟩ : ∃ k, n = k + 1 := ⟨n - 1, by simp only at h0; omega⟩
    have hw := h k (by omega) rfl
    have ha : a = (scratchAfter m c k (by omega)).1 := congrArg Prod.fst hw
    have hs : s = (scratchAfter m c k (by omega)).2 := congrArg Prod.snd hw
    subst ha hs
    have hacc : scratchAfter m c (k + 1) hn = stepAt m c ⟨k + 1, hn⟩ (scratchAfter m c k (by omega)) := rfl
    by_cases ht : k + 1 < 3
    · rw [nodesOver_eq m c _ ht]
      simp only [resultAfter, if_pos ht]
      rw [hacc, stepAt, if_pos ht]
      exact leaves_inner _ (fun h => h0 ((isFirst_iff _).1 h)) ((isInner_iff _).2 ht) (fun h => by have := (isLast_iff _).1 h; simp only at this; omega) _ _ _ _ _ _ _ _ _ _ y _ _
    · have h3 : k + 1 = 3 := by simp only at hN; omega
      have hx : ∀ (j : Fin 32) (n : Fin 25600), n.val < 23200 →
          nodesOver m c ⟨k + 1, hn⟩ d (ix2 j n) = nodes m c ⟨k + 1, hn⟩ (ix2 j n) := fun j n hn' => node_agree m c _ _ _ j n (.inr hn')
      have L := leaves_last (grid0.coords ⟨k + 1, hn⟩) (fun h => h0 ((isFirst_iff _).1 h)) (fun h => ht ((isInner_iff _).1 h)) ((isLast_iff _).2 h3)
        (nodesOver m c ⟨k + 1, hn⟩ d) (iblk m c 1 ⟨k + 1, hn⟩) (iblk m c 2 ⟨k + 1, hn⟩) (iblk m c 3 ⟨k + 1, hn⟩) (iblk m c 4 ⟨k + 1, hn⟩) (iblk m c 5 ⟨k + 1, hn⟩) (iblk m c 6 ⟨k + 1, hn⟩) (iblk m c 7 ⟨k + 1, hn⟩) (iblk m c 8 ⟨k + 1, hn⟩) (iblk m c 9 ⟨k + 1, hn⟩)
        y (scratchAfter m c k (by omega)).1 (scratchAfter m c k (by omega)).2
      rw [avLast_congr _ _ _ _ _ _ hx, aeLast_congr _ _ _ _ _ _ hx] at L
      simp only [resultAfter, if_neg ht, answerAt]
      rw [hacc, stepAt, if_neg ht]
      exact L

/-! ## The pipeline's proof data -/

/-- The scratch before point `n`, at what the point before left, and the generator register at something. -/
def between (c : Dev nD) (n : ℕ) : sProp 𝕄 :=
  iprop(∃ (a : Vec Ideal S32x512 .f32) (s : Vec Ideal S8x512 .f32), ⌜Was m c n a s⌝ ∗ (owns (c : Thread nD τ) (Memref.whole cc0_scratch0) fullShare a
    ∗ owns (c : Thread nD τ) (Memref.whole cc0_scratch1) fullShare s) ∗ (∃ r, prngReg c r))

/-- The proof data of the pipeline on core `c`: the arrays as the region finds them; the inputs' buffers left at their
    blocks, the result's at the answer; the scratch between points. -/
def dats (_ : Fin 1) (c : Dev nD) : Dat τ (Elt Ideal) Unit ℕ (UR sig nD τ) ℕ cfg0 c where
  A w := V m c (Pipeline.arrRef spec0 w)
  after w t := match w with
    | ⟨0, _⟩ => nodes m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => answerAt m c t
  Φ t := between m c t.val
  q _ := fullShare
  owed _ := 0

/-- The proof data's arrays are what the region finds. -/
theorem A_eq (c : Dev nD) (w : Fin cfg0.W) : (dats m 0 c).A w = V m c (Pipeline.arrRef spec0 w) := by
  dsimp only [dats]

/-- The nodes' buffer at each point: just fetched. -/
theorem before_0 (c : Dev nD) (t : Fin cfg0.N) (d) : (dats m 0 c).before 0 t d = nodesOver m c t d := by
  unfold Dat.before; rw [if_pos (fetch0_0 t)]; rfl
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d

/-- The nodes' buffer after a point, on the part inside the array. -/
theorem nodes_cut (c : Dev nD) (t : Fin cfg0.N) : win0_0.cut (grid0.coords t) (nodes m c t) = iblk m c 0 t := win0_0.cut_fill _ _ _

/-- The result's buffer is left alone, and not written back, before the last point. -/
theorem idle_10 : ∀ t : Fin cfg0.N, t.val < 3 → cfg0.idle 10 (grid0.coords t) = true := by decide +kernel
theorem noFlush_10 : ∀ t : Fin cfg0.N, t.val < 3 → (cfg0.win 10).flush t = false := by decide +kernel
theorem live_10 : ∀ t : Fin cfg0.N, ¬ t.val < 3 → cfg0.idle 10 (grid0.coords t) = false := by decide +kernel

/-! ## The body's obligation -/

/-- The row of the body table at point `t` is the body on the buffers of that point. -/
theorem defs₀_row (t : Fin cfg0.N) :
    defs₀ (F := Ideal) .tc cfg0.body (cfg0.bodyArgs t (cfg0.slots t)) = bodyAt0 t := by
  unfold defs₀; rw [Defs.onTc_tc]

/-- The nodes' buffer is handed back as the pipeline takes it: right on the part inside the array. -/
theorem leaves_0 (c : Dev nD) (t : Fin cfg0.N) (d : Vec Ideal S32x25600 .f32) :
    owns (c : Thread nD τ) (win0_0.stage (cfg0.slots t 0)) fullShare (nodesOver m c t d) ⊢ (dats m 0 c).leaves 0 t := by
  have e : nodesOver m c t d = win0_0.fill (grid0.coords t) d (win0_0.cut (grid0.coords t) (nodes m c t)) := by
    rw [nodes_cut]; rfl
  rw [e]
  iintro H
  unfold Dat.leaves
  iexists d
  iexact H

theorem leaves_1 (c : Dev nD) (t : Fin cfg0.N) :
    (dats m 0 c).leaves 1 t = owns (c : Thread nD τ) (win0_1.stage (cfg0.slots t 1)) fullShare (iblk m c 1 t) := rfl
theorem leaves_2 (c : Dev nD) (t : Fin cfg0.N) :
    (dats m 0 c).leaves 2 t = owns (c : Thread nD τ) (win0_2.stage (cfg0.slots t 2)) fullShare (iblk m c 2 t) := rfl
theorem leaves_3 (c : Dev nD) (t : Fin cfg0.N) :
    (dats m 0 c).leaves 3 t = owns (c : Thread nD τ) (win0_3.stage (cfg0.slots t 3)) fullShare (iblk m c 3 t) := rfl
theorem leaves_4 (c : Dev nD) (t : Fin cfg0.N) :
    (dats m 0 c).leaves 4 t = owns (c : Thread nD τ) (win0_4.stage (cfg0.slots t 4)) fullShare (iblk m c 4 t) := rfl
theorem leaves_5 (c : Dev nD) (t : Fin cfg0.N) :
    (dats m 0 c).leaves 5 t = owns (c : Thread nD τ) (win0_5.stage (cfg0.slots t 5)) fullShare (iblk m c 5 t) := rfl
theorem leaves_6 (c : Dev nD) (t : Fin cfg0.N) :
    (dats m 0 c).leaves 6 t = owns (c : Thread nD τ) (win0_6.stage (cfg0.slots t 6)) fullShare (iblk m c 6 t) := rfl
theorem leaves_7 (c : Dev nD) (t : Fin cfg0.N) :
    (dats m 0 c).leaves 7 t = owns (c : Thread nD τ) (win0_7.stage (cfg0.slots t 7)) fullShare (iblk m c 7 t) := rfl
theorem leaves_8 (c : Dev nD) (t : Fin cfg0.N) :
    (dats m 0 c).leaves 8 t = owns (c : Thread nD τ) (win0_8.stage (cfg0.slots t 8)) fullShare (iblk m c 8 t) := rfl
theorem leaves_9 (c : Dev nD) (t : Fin cfg0.N) :
    (dats m 0 c).leaves 9 t = owns (c : Thread nD τ) (win0_9.stage (cfg0.slots t 9)) fullShare (iblk m c 9 t) := rfl

/-- The result's buffer is handed back as it was found before the last point, and at the answer there. -/
theorem leaves_10 (c : Dev nD) (t : Fin cfg0.N) (d) :
    owns (c : Thread nD τ) (win0_10.stage (cfg0.slots t 10)) fullShare (resultAfter m c t ((dats m 0 c).before 10 t d))
      ⊢ (dats m 0 c).leaves 10 t := by
  unfold resultAfter
  by_cases ht : t.val < 3
  · rw [if_pos ht, Dat.leaves_idle (dats m 0 c) 10 t (idle_10 t ht) (noFlush_10 t ht)]
    iintro H
    iexists d
    iexact H
  · rw [if_neg ht]
    unfold Dat.leaves
    rw [live_10 t ht]
    exact .rfl

/-- The body at point `t`, from what the pipeline hands it to what it takes back. -/
theorem body_point (c : Dev nD) (t : Fin cfg0.N) :
    iprop(between m c t.val ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d))
      ∗ (∃ d, owns (c : Thread nD τ) (win0_10.stage (cfg0.slots t 10)) fullShare ((dats m 0 c).before 10 t d)))
    ⊢ wp frame (wpE (defs₀ (F := Ideal)) Variants.none c none) Set.univ (bodyAt0 t) (fun _ =>
      iprop(between m c (t.val + 1) ∗ (dats m 0 c).owesAt () t.castSucc
      ∗ (dats m 0 c).leaves 0 t
      ∗ (dats m 0 c).leaves 1 t
      ∗ (dats m 0 c).leaves 2 t
      ∗ (dats m 0 c).leaves 3 t
      ∗ (dats m 0 c).leaves 4 t
      ∗ (dats m 0 c).leaves 5 t
      ∗ (dats m 0 c).leaves 6 t
      ∗ (dats m 0 c).leaves 7 t
      ∗ (dats m 0 c).leaves 8 t
      ∗ (dats m 0 c).leaves 9 t
      ∗ (dats m 0 c).leaves 10 t)) := by
  simp only [before_0, before_1, before_2, before_3, before_4, before_5, before_6, before_7, before_8, before_9]
  rw [leaves_1, leaves_2, leaves_3, leaves_4, leaves_5, leaves_6, leaves_7, leaves_8, leaves_9]
  unfold between
  iintro ⟨⟨%a, %s, %hw, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (leaves_at m c t d0 _ a s hw c _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · iexists (scratchAfter m c t.val t.isLt).1
    iexists (scratchAfter m c t.val t.isLt).2
    isplitr
    · ipureintro
      intro k hk e
      obtain rfl : t.val = k := by omega
      rfl
    isplitl [HS0 HS1]
    · isplitl [HS0]; · iexact HS0
      iexact HS1
    iexact Hg
  isplitl [Ho]; · iexact Ho
  isplitl [H0]; · iapply (leaves_0 m c t d0); iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves_10 m c t d10)
  iexact H10

/-- The library's obligation for the body. -/
theorem obligation (c : Dev nD) : BodyObligationLoose (dats m 0 c) (defs₀ (F := Ideal)) Variants.none () Set.univ := fun t => by
  rw [bigSep_W0, bigSep_W0, defs₀_row t]
  exact triple_restated (body_point m c t) rfl .rfl fun _ => .rfl

/-- What the launch hands the region is the scratch before the first point. -/
theorem hin (c : Dev nD) : Pipeline.ΦA spec0 c ⊢ (dats m 0 c).Φ 0 := by
  rw [show (dats m 0 c).Φ 0 = between m c 0 from rfl]
  unfold Pipeline.ΦA between; rw [scopedRest0_eq]; simp only [← owns_whole]
  iintro ⟨⟨⟨%a, HS0⟩, ⟨%s, HS1⟩⟩, Hg⟩
  iexists a; iexists s
  isplitr
  · ipureintro; intro k _ e; omega
  isplitl [HS0 HS1]
  · isplitl [HS0]; · iexact HS0
    iexact HS1
  iexact Hg

/-- After the last point the scratch is given back, its contents forgotten. -/
theorem hout (c : Dev nD) : (dats m 0 c).Φ (Fin.last cfg0.N) ⊢ Pipeline.ΦA spec0 c := by
  rw [show (dats m 0 c).Φ (Fin.last cfg0.N) = between m c cfg0.N from rfl]
  unfold Pipeline.ΦA between; rw [scopedRest0_eq]; simp only [← owns_whole]
  iintro ⟨%a, %s, -, ⟨HS0, HS1⟩, Hg⟩
  isplitl [HS0 HS1]
  · isplitl [HS0]
    · iexists a; iexact HS0
    iexists s; iexact HS1
  iexact Hg

/-! ## The run -/

set_option backward.isDefEq.respectTransparency.types false in
/-- The run of @main: it ends, the pipeline's arrays at what the proof data computes and every other buffer at what the
    lines after the region make of them; every counter at zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.Frames.lean ====
/- The frames of the two idealized programs: each ends with its arguments unchanged and every semaphore counter at zero. -/
module

public import proofs.«01_k».proof.Defs
public import proofs.«01_k».proof.Proof.Run.Launch
public import proofs.«01_k».proof.Proof.Frame.Launch
public import proofs.«01_k».proof.Proof.Gen.ReferenceIdeal.Run
public import Idealize.ShloMosaic.Lib.Quiescent

@[expose] public section

noncomputable section

namespace Cert.Frames

open Idealize.ShloMosaic Idealize.ShloMosaic.TcCoe Idealize.ShloMosaic.Tactic Idealize.SL.Sem

/-- The kernel read at the extended reals leaves its arguments and its semaphores as they were. -/
theorem kernelIdeal : quiescent_KernelIdeal (hKernelIdeal := Cert.KernelIdeal.Gen.facts) := fun m ρ _ =>
  θ_run_with_sems (Cert.KernelIdeal.Gen.frame_of m ρ (Cert.KernelIdeal.Hand.dats m) (Cert.KernelIdeal.Hand.A_eq m))
    (Cert.KernelIdeal.Hand.run_main m ρ)

/-- The reference leaves its arguments and its semaphores as they were. -/
theorem referenceIdeal : quiescent_ReferenceIdeal (hReferenceIdeal := Cert.ReferenceIdeal.Gen.facts) := fun m ρ _ =>
  (θ_run _ _ _).mono (fun _ h => ⟨fun c => (h c).2, sem_eq_zero_of_no_sems (sig := Cert.ReferenceIdeal.sig) rfl _⟩)
    (Cert.ReferenceIdeal.Value.run m ρ)

end Cert.Frames

end
-- ==== Proof.Math.Network.lean ====
/- The network as plain formulas over the extended reals: a node's attention score, a fully connected layer, and the
   classifier that ends the network. Both programs' results are stated with these. -/
module

public import Idealize.ShloMosaic.PureOps.Ideal.Laws
public import Idealize.ShloMosaic.Lib.ValueIdx

@[expose] public section

noncomputable section

namespace Cert.Network

open Idealize.ShloMosaic Idealize.ShloMosaic.ValueIdx

/-- A matrix. -/
abbrev Mat (a b : ℕ) : Type := (⟨2, ![a, b]⟩ : Shape).Idx → EReal

/-- A vector. -/
abbrev Col (a : ℕ) : Type := (⟨1, ![a]⟩ : Shape).Idx → EReal

/-- A fully connected layer before its activation. -/
def layer {a b : ℕ} (w : Mat a b) (v : Col b) (x : Fin a → EReal) (k : Fin b) : EReal :=
  ∑ j : Fin a, x j * w (ix2 j k) + v (ix1 k)

/-- Node `i`'s attention score, without the scoring bias. -/
def logit (z : Mat 100000 32) (w1 : Mat 32 32) (b1 : Col 32) (w2 : Mat 32 1) (i : Fin 100000) : EReal :=
  ∑ k : Fin 32, Ideal.tanh (layer w1 b1 (fun j => z (ix2 i j)) k) * w2 (ix2 k 0)

/-- Node `i`'s feature `r`, times the node's weight. -/
def weighed (z : Mat 100000 32) (w : Fin 100000 → EReal) (r : Fin 32) (i : Fin 100000) : EReal := z (ix2 i r) * w i

/-- The classifier on a graph's features: two rectified layers, then one output through the logistic function. -/
def classify (w1 : Mat 32 128) (v1 : Col 128) (w2 : Mat 128 64) (v2 : Col 64) (w3 : Mat 64 1) (v3 : Col 1)
    (g : Fin 32 → EReal) : EReal :=
  Ideal.logistic (layer w3 v3 (fun k => max (layer w2 v2 (fun j => max (layer w1 v1 g j) 0) k) 0) 0)

/-- The small constant that keeps a denominator away from zero. -/
def eps : EReal := Ideal.ofBits .f32 0x322BCC77#32

end Cert.Network

end
-- ==== Proof.Math.Attention.lean ====
/- The normalised attention weights over the extended reals. Scores that are finite numbers give finite positive weights,
   and a shift of all scores by the same number, with the guard shifted alike, leaves the weighted mean unchanged. -/
module

public import proofs.«01_k».proof.Proof.Math.Network
public import Mathlib.Data.EReal.Inv

@[expose] public section

noncomputable section

namespace Cert.Attention

open Idealize.ShloMosaic Idealize.ShloMosaic.ValueIdx
open Cert.Network

/-- An extended real that is a real number. -/
def IsReal (x : EReal) : Prop := ∃ r : ℝ, x = (r : EReal)

/-- A sum of two real numbers is real. -/
theorem IsReal.add {x y : EReal} (hx : IsReal x) (hy : IsReal y) : IsReal (x + y) := by
  obtain ⟨r, rfl⟩ := hx
  obtain ⟨t, rfl⟩ := hy
  exact ⟨r + t, (EReal.coe_add r t).symm⟩

/-- A product of two real numbers is real. -/
theorem IsReal.mul {x y : EReal} (hx : IsReal x) (hy : IsReal y) : IsReal (x * y) := by
  obtain ⟨r, rfl⟩ := hx
  obtain ⟨t, rfl⟩ := hy
  exact ⟨r * t, (EReal.coe_mul r t).symm⟩

/-- A finite sum of real numbers is real. -/
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

/-- The hyperbolic tangent is real everywhere, at the infinities too. -/
theorem isReal_tanh (x : EReal) : IsReal (Ideal.tanh x) := by
  induction x using EReal.rec with
  | bot => exact ⟨-1, by simp⟩
  | coe r => exact ⟨Real.tanh r, Ideal.tanh_coe r⟩
  | top => exact ⟨1, by simp⟩

/-- A node's score is real when the scoring weights are. -/
theorem isReal_logit (z : Mat 100000 32) (w1 : Mat 32 32) (b1 : Col 32) (w2 : Mat 32 1) (h : ∀ k, IsReal (w2 (ix2 k 0)))
    (i : Fin 100000) : IsReal (logit z w1 b1 w2 i) :=
  IsReal.sum _ _ fun k => (isReal_tanh _).mul (h k)

/-- The greatest of finitely many reals, at least one, found from `-∞` on, is real. -/
theorem isReal_max {ι : Type} (s : Finset ι) (f : ι → EReal) (h : ∀ i, IsReal (f i)) (hs : s.Nonempty) :
    IsReal (s.fold max ⊥ f) := by
  classical
  induction hs using Finset.Nonempty.cons_induction with
  | singleton a =>
    rw [Finset.fold_singleton, max_bot_right]
    exact h a
  | cons a s ha hs ih =>
    rw [Finset.fold_cons]
    rcases max_choice (f a) (s.fold max ⊥ f) with e | e
    · rw [e]; exact h a
    · rw [e]; exact ih

/-- A sum times a nonnegative real is the sum of the products, infinite terms included. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- The guard is a positive real. -/
theorem eps_pos : ∃ r : ℝ, 0 < r ∧ eps = (r : EReal) := by
  refine ⟨_, ?_, by simp [eps, Ideal.ofBits, Ideal.ieee, -EReal.coe_mul]; rfl⟩
  positivity

/-- A finite sum of reals, as a real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Weights and guard scaled by the same positive factor give the same quotient. -/
theorem share_eq (l b M g W : ℝ) (hg : 0 < W + g) :
    Real.exp (l + b - M) * (1 / (W * Real.exp (b - M) + g * Real.exp (b - M))) = Real.exp l * (1 / (W + g)) := by
  have e : Real.exp (l + b - M) = Real.exp l * Real.exp (b - M) := by rw [← Real.exp_add]; ring_nf
  have p := Real.exp_pos (b - M)
  rw [e, ← add_mul]
  field_simp

/-- The weighted mean: with real scores `l`, a real bias `b` and a real shift `M`, taking every node's share with the shifted
    scores and the shifted guard is dividing the weighted sum by the total weight plus the guard. -/
theorem weighted_mean {ι : Type} [Fintype ι] (z l : ι → EReal) (b M : EReal) (hl : ∀ i, IsReal (l i)) (hb : IsReal b) (hM : IsReal M) :
    ∑ i, z i * Ideal.div (Ideal.exp (l i + b - M)) (∑ j, Ideal.exp (l j + b - M) + eps * Ideal.exp (b - M))
      = Ideal.div (∑ i, z i * Ideal.exp (l i)) (∑ i, Ideal.exp (l i) + eps) := by
  choose x hx using hl
  obtain ⟨b, rfl⟩ := hb
  obtain ⟨M, rfl⟩ := hM
  obtain ⟨g, hg, eg⟩ := eps_pos
  have e1 : ∀ i, Ideal.exp (l i + (b : EReal) - (M : EReal)) = ((Real.exp (x i + b - M) : ℝ) : EReal) := fun i => by
    rw [hx, ← EReal.coe_add, ← EReal.coe_sub, Ideal.exp_coe]
  have e2 : ∀ i, Ideal.exp (l i) = ((Real.exp (x i) : ℝ) : EReal) := fun i => by rw [hx, Ideal.exp_coe]
  have e3 : ∀ i, Real.exp (x i + b - M) = Real.exp (x i) * Real.exp (b - M) := fun i => by rw [← Real.exp_add]; ring_nf
  have hW : 0 < (∑ i, Real.exp (x i)) + g := add_pos_of_nonneg_of_pos (Finset.sum_nonneg fun i _ => (Real.exp_pos _).le) hg
  have e4 : (∑ j, Ideal.exp (l j + (b : EReal) - (M : EReal))) + eps * Ideal.exp ((b : EReal) - (M : EReal))
      = (((∑ i, Real.exp (x i)) * Real.exp (b - M) + g * Real.exp (b - M) : ℝ) : EReal) := by
    simp only [e1]
    rw [sum_coe, eg, ← EReal.coe_sub, Ideal.exp_coe, ← EReal.coe_mul, ← EReal.coe_add]
    simp only [e3]
    rw [Finset.sum_mul]
  have e5 : (∑ i, Ideal.exp (l i)) + eps = (((∑ i, Real.exp (x i)) + g : ℝ) : EReal) := by
    simp only [e2]
    rw [sum_coe, eg, EReal.coe_add]
  have hD : (∑ i, Real.exp (x i)) * Real.exp (b - M) + g * Real.exp (b - M) ≠ 0 := by
    rw [← add_mul]
    exact (mul_pos hW (Real.exp_pos _)).ne'
  rw [e4, e5, Ideal.div_coe hW.ne', sum_mul_real _ _ _ (one_div_nonneg.2 hW.le)]
  refine Finset.sum_congr rfl fun i _ => ?_
  rw [Ideal.div_coe hD, e1, e2, ← EReal.coe_mul, share_eq _ _ _ _ _ hW, EReal.coe_mul, mul_assoc]

end Cert.Attention

end
-- ==== Proof.Finite.lean ====
/- The precondition, read: the scoring weights and the scoring bias are real numbers. -/
module

public import proofs.«01_k».proof.Defs
public import proofs.«01_k».proof.Proof.Math.Attention
public import Idealize.ShloMosaic.Lib.ReduceAll
public import Idealize.ShloMosaic.Lib.Pipeline.Value
public import Idealize.ShloMosaic.Lib.Affine

@[expose] public section

noncomputable section

namespace Cert.Finite

open Cert.Pre_finite_scores
open Idealize.ShloMosaic Idealize.ShloMosaic.ValueIdx
open Cert.Network Cert.Attention

/-- The shape facts the precondition's operations take. -/
theorem facts : Cert.Pre_finite_scores.Facts where
  bcast_S_S32x1 := by decide
  reducesTo_S32x1_S_d0_1 := by decide
  h_S_ := by decide
  bcast_S_S1 := by decide
  reducesTo_S1_S_d0 := by decide

/-- A number whose absolute value is below infinity is real. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- Where the conjunction of all comparisons holds, every entry is real. -/
theorem isReal_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : IsReal (x i) := by
  haveI : Subsingleton S_.Idx := ⟨fun a b => funext fun d => d.elim0⟩
  have h1 := Host.reduce_andi_all _ _ hr hu ix0 h i
  refine isReal_of_abs_lt (x i) (Eq.trans ?_ h1)
  exact congrArg (fun y => Ideal.cmp .olt (max (x i : EReal) (-(x i : EReal))) y)
    (broadcastInDim_apply _ hb (constant (F := Ideal) S_ .f32 0x7F800000#32) i ix0 fun a => a.elim0).symm

variable [Cert.Pre_finite_scores.Facts]

/-- The precondition makes every scoring weight and the scoring bias real. -/
theorem isReal_of_pre (a0 : FVec Ideal S100000x32 .f32) (a1 : FVec Ideal S32x32 .f32) (a2 : FVec Ideal S32 .f32) (a3 : FVec Ideal S32x1 .f32)
    (a4 : FVec Ideal S1 .f32) (a5 : FVec Ideal S32x128 .f32) (a6 : FVec Ideal S128 .f32) (a7 : FVec Ideal S128x64 .f32)
    (a8 : FVec Ideal S64 .f32) (a9 : FVec Ideal S64x1 .f32) (a10 : FVec Ideal S1 .f32)
    (h : Cert.Pre_finite_scores.fn (F := Ideal) a0 a1 a2 a3 a4 a5 a6 a7 a8 a9 a10 ix0 = 1#1) :
    (∀ i, IsReal (a3 i)) ∧ ∀ i, IsReal (a4 i) := by
  have h2 := IntOp.andi_eq_one.1 h
  exact ⟨isReal_of_all a3 _ _ _ h2.1, isReal_of_all a4 _ _ _ h2.2⟩

end Cert.Finite

end
-- ==== Proof.Run.Blocks.lean ====
/- What the kernel's windows hold, read at the program's arguments. The program transposes the nodes and the weights of
   both networks, lays every bias out as a column and repeats the scoring weights over eight rows; each block
   but the nodes' is the whole of its array at every grid point, and the nodes' block at point `t` is 25600 columns of
   the transposed nodes, of which the last block has only 23200. -/
module

public import proofs.«01_k».proof.Proof.Run.Launch
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ)

/-! ## Layouts -/

/-- A transposed matrix at `(r, c)` is the matrix at `(c, r)`. -/
theorem transpose_ix2 {α : Type} {a b : ℕ} (x : (⟨2, ![a, b]⟩ : Shape).Idx → α)
    (h : (⟨2, ![a, b]⟩ : Shape).Transposes [1, 0] ⟨2, ![b, a]⟩) (r : Fin b) (c : Fin a) :
    transpose ⟨2, ![b, a]⟩ [1, 0] x h (ix2 r c) = x (ix2 c r) :=
  transpose_apply _ _ _ _ _ fun d => match d with
    | ⟨0, _⟩ => rfl
    | ⟨1, _⟩ => rfl

/-- A vector laid out as a column holds at row `r` its entry `r`. -/
theorem column_ix2 {α : Type} {a : ℕ} (x : (⟨1, ![a]⟩ : Shape).Idx → α)
    (h : (⟨1, ![a]⟩ : Shape).ShapeCasts ⟨2, ![a, 1]⟩) (r : Fin a) :
    shapeCast ⟨2, ![a, 1]⟩ x h (ix2 r 0) = x (ix1 r) :=
  shapeCast_apply _ _ _ _ (by
    simp only [Shape.rowMajor_val_two, Shape.rowMajor_val_one]
    show r.val = r.val * 1 + 0
    omega)

/-! ## Blocks that are whole arrays -/

/-- The projection weights, transposed. -/
theorem block_1 (c : Dev nD) (t : Fin cfg0.N) (r : Fin 32) (k : Fin 32) :
    iblk m c 1 t (ix2 r k) = m ((c : Thread nD τ).loc main_arg1) (ix2 k r) := by
  have e0 : win0_1.index t (0 : Fin 2) = 0 := by revert t; decide +kernel
  have e1 : win0_1.index t (1 : Fin 2) = 0 := by revert t; decide +kernel
  have hi : ((cfg0.win 1).blk t).view.emb (ix2 r k) = ix2 r k := by
    refine Shape.idx_ext₂ ?_ ?_
    · show win0_1.index t (0 : Fin 2) * 32 + 1 * r.val = r.val
      omega
    · show win0_1.index t (1 : Fin 2) * 32 + 1 * k.val = k.val
      omega
  show V m c main_v1 (((cfg0.win 1).blk t).view.emb (ix2 r k)) = _
  rw [hi]
  exact (congrFun (show V m c main_v1 = transpose S32x32 [1, 0] (m ((c : Thread nD τ).loc main_arg1)) transposes_S32x32_S32x32_1_0 by entry_read; rfl) _).trans
    (transpose_ix2 _ _ r k)

/-- The projection bias, a column. -/
theorem block_2 (c : Dev nD) (t : Fin cfg0.N) (r : Fin 32) :
    iblk m c 2 t (ix2 r 0) = m ((c : Thread nD τ).loc main_arg2) (ix1 r) := by
  have e0 : win0_2.index t (0 : Fin 2) = 0 := by revert t; decide +kernel
  have e1 : win0_2.index t (1 : Fin 2) = 0 := by revert t; decide +kernel
  have hi : ((cfg0.win 2).blk t).view.emb (ix2 r 0) = ix2 r 0 := by
    refine Shape.idx_ext₂ ?_ ?_
    · show win0_2.index t (0 : Fin 2) * 32 + 1 * r.val = r.val
      omega
    · show win0_2.index t (1 : Fin 2) * 1 + 1 * (0 : Fin 1).val = (0 : Fin 1).val
      omega
  show V m c main_v2 (((cfg0.win 2).blk t).view.emb (ix2 r 0)) = _
  rw [hi]
  exact (congrFun (show V m c main_v2 = shapeCast S32x1 (m ((c : Thread nD τ).loc main_arg2)) shapeCasts_S32_S32x1 by entry_read; rfl) _).trans
    (column_ix2 _ _ r)

/-- The scoring weights, the same in each of eight rows. -/
theorem block_3 (c : Dev nD) (t : Fin cfg0.N) (r : Fin 8) (k : Fin 32) :
    iblk m c 3 t (ix2 r k) = m ((c : Thread nD τ).loc main_arg3) (ix2 k 0) := by
  have e0 : win0_3.index t (0 : Fin 2) = 0 := by revert t; decide +kernel
  have e1 : win0_3.index t (1 : Fin 2) = 0 := by revert t; decide +kernel
  have hi : ((cfg0.win 3).blk t).view.emb (ix2 r k) = ix2 r k := by
    refine Shape.idx_ext₂ ?_ ?_
    · show win0_3.index t (0 : Fin 2) * 8 + 1 * r.val = r.val
      omega
    · show win0_3.index t (1 : Fin 2) * 32 + 1 * k.val = k.val
      omega
  show V m c main_v6 (((cfg0.win 3).blk t).view.emb (ix2 r k)) = _
  rw [hi]
  refine (congrFun (show V m c main_v6 = shapeCast S8x32 (broadcastInDim S8x1x1x32 ![0, 1, 2, 3] bcast_S1x1x1x32_S8x1x1x32_0_1_2_3 (shapeCast S1x1x1x32
    (transpose S1x32 [1, 0] (m ((c : Thread nD τ).loc main_arg3)) transposes_S32x1_S1x32_1_0) shapeCasts_S1x32_S1x1x1x32)) shapeCasts_S8x1x1x32_S8x32 by entry_read; rfl) _).trans ?_
  have hr := r.isLt
  have hk := k.isLt
  let j8 : S8x1x1x32.Idx := fun d => match d with
    | ⟨0, _⟩ => r
    | ⟨1, _⟩ => (0 : Fin 1)
    | ⟨2, _⟩ => (0 : Fin 1)
    | ⟨3, _⟩ => k
  let j1 : S1x1x1x32.Idx := fun d => match d with
    | ⟨0, _⟩ => (0 : Fin 1)
    | ⟨1, _⟩ => (0 : Fin 1)
    | ⟨2, _⟩ => (0 : Fin 1)
    | ⟨3, _⟩ => k
  refine (shapeCast_apply _ _ _ j8 ?_).trans ((broadcastInDim_apply _ _ _ _ j1 ?_).trans ((shapeCast_apply _ _ _ (ix2 (0 : Fin 1) k) ?_).trans (transpose_ix2 _ _ 0 k)))
  · rw [Shape.rowMajor_val_four, Shape.rowMajor_val_two]
    show ((r.val * 1 + 0) * 1 + 0) * 32 + k.val = r.val * 32 + k.val
    omega
  · intro d
    match d with
    | ⟨0, _⟩ => rfl
    | ⟨1, _⟩ => rfl
    | ⟨2, _⟩ => rfl
    | ⟨3, _⟩ => rfl
  · rw [Shape.rowMajor_val_two, Shape.rowMajor_val_four]
    show 0 * 32 + k.val = ((0 * 1 + 0) * 1 + 0) * 32 + k.val
    omega

/-- The first layer's weights, transposed. -/
theorem block_4 (c : Dev nD) (t : Fin cfg0.N) (r : Fin 128) (k : Fin 32) :
    iblk m c 4 t (ix2 r k) = m ((c : Thread nD τ).loc main_arg5) (ix2 k r) := by
  have e0 : win0_4.index t (0 : Fin 2) = 0 := by revert t; decide +kernel
  have e1 : win0_4.index t (1 : Fin 2) = 0 := by revert t; decide +kernel
  have hi : ((cfg0.win 4).blk t).view.emb (ix2 r k) = ix2 r k := by
    refine Shape.idx_ext₂ ?_ ?_
    · show win0_4.index t (0 : Fin 2) * 128 + 1 * r.val = r.val
      omega
    · show win0_4.index t (1 : Fin 2) * 32 + 1 * k.val = k.val
      omega
  show V m c main_v7 (((cfg0.win 4).blk t).view.emb (ix2 r k)) = _
  rw [hi]
  exact (congrFun (show V m c main_v7 = transpose S128x32 [1, 0] (m ((c : Thread nD τ).loc main_arg5)) transposes_S32x128_S128x32_1_0 by entry_read; rfl) _).trans
    (transpose_ix2 _ _ r k)

/-- The first layer's bias, a column. -/
theorem block_5 (c : Dev nD) (t : Fin cfg0.N) (r : Fin 128) :
    iblk m c 5 t (ix2 r 0) = m ((c : Thread nD τ).loc main_arg6) (ix1 r) := by
  have e0 : win0_5.index t (0 : Fin 2) = 0 := by revert t; decide +kernel
  have e1 : win0_5.index t (1 : Fin 2) = 0 := by revert t; decide +kernel
  have hi : ((cfg0.win 5).blk t).view.emb (ix2 r 0) = ix2 r 0 := by
    refine Shape.idx_ext₂ ?_ ?_
    · show win0_5.index t (0 : Fin 2) * 128 + 1 * r.val = r.val
      omega
    · show win0_5.index t (1 : Fin 2) * 1 + 1 * (0 : Fin 1).val = (0 : Fin 1).val
      omega
  show V m c main_v8 (((cfg0.win 5).blk t).view.emb (ix2 r 0)) = _
  rw [hi]
  exact (congrFun (show V m c main_v8 = shapeCast S128x1 (m ((c : Thread nD τ).loc main_arg6)) shapeCasts_S128_S128x1 by entry_read; rfl) _).trans
    (column_ix2 _ _ r)

/-- The second layer's weights, transposed. -/
theorem block_6 (c : Dev nD) (t : Fin cfg0.N) (r : Fin 64) (k : Fin 128) :
    iblk m c 6 t (ix2 r k) = m ((c : Thread nD τ).loc main_arg7) (ix2 k r) := by
  have e0 : win0_6.index t (0 : Fin 2) = 0 := by revert t; decide +kernel
  have e1 : win0_6.index t (1 : Fin 2) = 0 := by revert t; decide +kernel
  have hi : ((cfg0.win 6).blk t).view.emb (ix2 r k) = ix2 r k := by
    refine Shape.idx_ext₂ ?_ ?_
    · show win0_6.index t (0 : Fin 2) * 64 + 1 * r.val = r.val
      omega
    · show win0_6.index t (1 : Fin 2) * 128 + 1 * k.val = k.val
      omega
  show V m c main_v9 (((cfg0.win 6).blk t).view.emb (ix2 r k)) = _
  rw [hi]
  exact (congrFun (show V m c main_v9 = transpose S64x128 [1, 0] (m ((c : Thread nD τ).loc main_arg7)) transposes_S128x64_S64x128_1_0 by entry_read; rfl) _).trans
    (transpose_ix2 _ _ r k)

/-- The second layer's bias, a column. -/
theorem block_7 (c : Dev nD) (t : Fin cfg0.N) (r : Fin 64) :
    iblk m c 7 t (ix2 r 0) = m ((c : Thread nD τ).loc main_arg8) (ix1 r) := by
  have e0 : win0_7.index t (0 : Fin 2) = 0 := by revert t; decide +kernel
  have e1 : win0_7.index t (1 : Fin 2) = 0 := by revert t; decide +kernel
  have hi : ((cfg0.win 7).blk t).view.emb (ix2 r 0) = ix2 r 0 := by
    refine Shape.idx_ext₂ ?_ ?_
    · show win0_7.index t (0 : Fin 2) * 64 + 1 * r.val = r.val
      omega
    · show win0_7.index t (1 : Fin 2) * 1 + 1 * (0 : Fin 1).val = (0 : Fin 1).val
      omega
  show V m c main_v10 (((cfg0.win 7).blk t).view.emb (ix2 r 0)) = _
  rw [hi]
  exact (congrFun (show V m c main_v10 = shapeCast S64x1 (m ((c : Thread nD τ).loc main_arg8)) shapeCasts_S64_S64x1 by entry_read; rfl) _).trans
    (column_ix2 _ _ r)

/-- The output layer's weights, transposed. -/
theorem block_8 (c : Dev nD) (t : Fin cfg0.N) (r : Fin 1) (k : Fin 64) :
    iblk m c 8 t (ix2 r k) = m ((c : Thread nD τ).loc main_arg9) (ix2 k r) := by
  have e0 : win0_8.index t (0 : Fin 2) = 0 := by revert t; decide +kernel
  have e1 : win0_8.index t (1 : Fin 2) = 0 := by revert t; decide +kernel
  have hi : ((cfg0.win 8).blk t).view.emb (ix2 r k) = ix2 r k := by
    refine Shape.idx_ext₂ ?_ ?_
    · show win0_8.index t (0 : Fin 2) * 1 + 1 * r.val = r.val
      omega
    · show win0_8.index t (1 : Fin 2) * 64 + 1 * k.val = k.val
      omega
  show V m c main_v11 (((cfg0.win 8).blk t).view.emb (ix2 r k)) = _
  rw [hi]
  exact (congrFun (show V m c main_v11 = transpose S1x64 [1, 0] (m ((c : Thread nD τ).loc main_arg9)) transposes_S64x1_S1x64_1_0 by entry_read; rfl) _).trans
    (transpose_ix2 _ _ r k)

/-- The output layer's bias, a column. -/
theorem block_9 (c : Dev nD) (t : Fin cfg0.N) (r : Fin 1) :
    iblk m c 9 t (ix2 r 0) = m ((c : Thread nD τ).loc main_arg10) (ix1 r) := by
  have e0 : win0_9.index t (0 : Fin 2) = 0 := by revert t; decide +kernel
  have e1 : win0_9.index t (1 : Fin 2) = 0 := by revert t; decide +kernel
  have hi : ((cfg0.win 9).blk t).view.emb (ix2 r 0) = ix2 r 0 := by
    refine Shape.idx_ext₂ ?_ ?_
    · show win0_9.index t (0 : Fin 2) * 1 + 1 * r.val = r.val
      omega
    · show win0_9.index t (1 : Fin 2) * 1 + 1 * (0 : Fin 1).val = (0 : Fin 1).val
      omega
  show V m c main_v12 (((cfg0.win 9).blk t).view.emb (ix2 r 0)) = _
  rw [hi]
  exact (congrFun (show V m c main_v12 = shapeCast S1x1 (m ((c : Thread nD τ).loc main_arg10)) shapeCasts_S1_S1x1 by entry_read; rfl) _).trans
    (column_ix2 _ _ r)

/-! ## The nodes -/

/-- Every block of nodes holds all features. -/
theorem nodes_index_0 : ∀ t : Fin grid0.N, win0_0.index t (0 : Fin 2) = 0 := by decide +kernel

/-- The block of point `t` is number `t` among those of the nodes. -/
theorem nodes_index_1 : ∀ t : Fin grid0.N, win0_0.index t (1 : Fin 2) = t.val := by decide +kernel

/-- The nodes, transposed: a column inside the array is the node of that number. -/
theorem nodes_apply (c : Dev nD) (t : Fin cfg0.N) (j : Fin 32) (n : Fin 25600) (hn : 25600 * t.val + n.val < 100000) :
    nodes m c t (ix2 j n) = m ((c : Thread nD τ).loc main_arg0) (ix2 ⟨25600 * t.val + n.val, hn⟩ j) := by
  have hm : win0_0.moved (grid0.coords t) (ix2 j n) = true := (win0_0.moved_iff _ _).mpr fun a => by
    rw [xsize0 t a]
    match a with
    | ⟨0, _⟩ => exact j.isLt
    | ⟨1, _⟩ =>
      show n.val < if t.val < 3 then 25600 else 23200
      have := n.isLt
      split <;> omega
  have e0 := nodes_index_0 t
  have e1 := nodes_index_1 t
  unfold nodes nodesOver Pipeline.Window.fill
  rw [dif_pos hm]
  refine (congrArg (V m c main_v0) (?_ : ((cfg0.win 0).blk t).view.emb _ = ix2 j ⟨25600 * t.val + n.val, hn⟩)).trans ?_
  · refine Shape.idx_ext₂ ?_ ?_
    · show win0_0.index t (0 : Fin 2) * 32 + 1 * j.val = j.val
      omega
    · show win0_0.index t (1 : Fin 2) * 25600 + 1 * n.val = 25600 * t.val + n.val
      omega
  exact (congrFun (show V m c main_v0 = transpose S32x100000 [1, 0] (m ((c : Thread nD τ).loc main_arg0)) transposes_S100000x32_S32x100000_1_0 by entry_read; rfl) _).trans
    (transpose_ix2 _ _ j _)

end Cert.KernelIdeal.Hand

end
-- ==== Proof.Math.Lanes.lean ====
/- Sums dealt out over lanes. A sum over `100000` numbers is the sum, over `512` lanes, of what each lane gathers when the
   numbers come in rows of `512`: `195` whole rows and a last one of `160`. -/
module

public import Mathlib.Algebra.BigOperators.Fin
public import Mathlib.Algebra.BigOperators.Intervals

@[expose] public section

namespace Cert.Lanes

open Finset

variable {M : Type} [AddCommMonoid M]

/-- `q` whole rows of `w` numbers. -/
theorem sum_rows (f : ℕ → M) (w q : ℕ) : ∑ l : Fin w, ∑ k ∈ range q, f (w * k + l.val) = ∑ i ∈ range (w * q), f i := by
  induction q with
  | zero => simp
  | succ q ih =>
    simp only [sum_range_succ, sum_add_distrib]
    rw [ih, Nat.mul_succ, sum_range_add, ← Fin.sum_univ_eq_sum_range (fun i => f (w * q + i)) w]

/-- A last row of which the first `v` numbers count. -/
theorem sum_cut (f : ℕ → M) (w v : ℕ) (h : v ≤ w) : ∑ l : Fin w, (if l.val < v then f l.val else 0) = ∑ i ∈ range v, f i := by
  rw [Fin.sum_univ_eq_sum_range (fun i => if i < v then f i else 0) w]
  obtain ⟨d, rfl⟩ := Nat.exists_eq_add_of_le h
  rw [sum_range_add]
  have h1 : ∑ x ∈ range v, (if x < v then f x else 0) = ∑ x ∈ range v, f x :=
    sum_congr rfl fun x hx => if_pos (mem_range.1 hx)
  have h2 : ∑ x ∈ range d, (if v + x < v then f (v + x) else 0) = 0 :=
    sum_eq_zero fun x _ => if_neg (by omega)
  rw [h1, h2, add_zero]

/-- All the numbers: `195` whole rows of `512` and a last one of `160`. -/
theorem sum_all (f : ℕ → M) :
    ∑ l : Fin 512, (∑ k ∈ range 195, f (512 * k + l.val) + if l.val < 160 then f (512 * 195 + l.val) else 0)
      = ∑ i ∈ range 100000, f i := by
  rw [sum_add_distrib, sum_rows, sum_cut (fun l => f (512 * 195 + l)) 512 160 (by omega)]
  exact (sum_range_add f (512 * 195) 160).symm

/-- A family over `n` numbers, and zero beyond. -/
def extend {n : ℕ} (f : Fin n → M) (i : ℕ) : M := if h : i < n then f ⟨i, h⟩ else 0

/-- Within range the extension is the family. -/
theorem extend_of_lt {n : ℕ} (f : Fin n → M) (i : ℕ) (h : i < n) : extend f i = f ⟨i, h⟩ := dif_pos h

/-- The extension's sum is the family's. -/
theorem sum_extend {n : ℕ} (f : Fin n → M) : ∑ i ∈ range n, extend f i = ∑ i, f i := by
  rw [Finset.sum_range]
  exact sum_congr rfl fun i _ => extend_of_lt f i.val i.isLt

end Cert.Lanes
-- ==== Proof.Run.Total.lean ====
/- What the scratch holds when the last point has added its block, as sums over the nodes: each lane has gathered, of every
   row of 512 nodes, the node in its place, and all lanes together the nodes' total. -/
module

public import proofs.«01_k».proof.Proof.Run.Blocks
public import proofs.«01_k».proof.Proof.Math.Lanes
public import proofs.«01_k».proof.Proof.Math.Network

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Lanes Cert.Network

variable (m : (ℓ : Loc nD τ sig) → Buf (Elt Ideal) ℓ)

/-- Node `i`'s weight: the exponential of its score. -/
def weightOf (c : Dev nD) (i : Fin 100000) : EReal :=
  Ideal.exp (logit (m ((c : Thread nD τ).loc main_arg0)) (m ((c : Thread nD τ).loc main_arg1)) (m ((c : Thread nD τ).loc main_arg2))
    (m ((c : Thread nD τ).loc main_arg3)) i)

/-- Node `i`'s feature `r`, weighted. -/
def featureOf (c : Dev nD) (r : Fin 32) (i : Fin 100000) : EReal :=
  weighed (m ((c : Thread nD τ).loc main_arg0)) (weightOf m c) r i

/-- A block's weight at a column inside the array, in any of the eight rows. -/
theorem blockWeights_apply (c : Dev nD) (t : Fin cfg0.N) (s : Fin 8) (n : Fin 25600) (h : 25600 * t.val + n.val < 100000) :
    blockWeights m c t (ix2 s n) = weightOf m c ⟨25600 * t.val + n.val, h⟩ := by
  unfold blockWeights weightOf
  refine (weights_apply _ _ _ _ s n).trans (congrArg Ideal.exp ?_)
  unfold score logit layer
  refine Finset.sum_congr rfl fun k _ => ?_
  rw [block_3, block_2, mul_comm]
  refine congrArg (fun y => Ideal.tanh (y + _) * _) (Finset.sum_congr rfl fun j _ => ?_)
  dsimp only
  rw [block_1, nodes_apply m c t j n h]
  exact mul_comm _ _

/-- A lane of a chunk inside the array: the node it is. -/
theorem blockWeights_lane (c : Dev nD) (t : Fin cfg0.N) (s : Fin 8) (k : ℕ) (hk : k < 50) (l : Fin 512)
    (h : 25600 * t.val + (512 * k + l.val) < 100000) :
    blockWeights m c t (ix2 s (lane k hk l)) = extend (weightOf m c) (512 * (50 * t.val + k) + l.val) := by
  refine (blockWeights_apply m c t s (lane k hk l) h).trans ((extend_of_lt (weightOf m c) _ h).symm.trans (congrArg _ ?_))
  show 25600 * t.val + (512 * k + l.val) = _
  omega

/-- A lane of a chunk inside the array: the weighted feature of the node it is. -/
theorem feature_lane (c : Dev nD) (t : Fin cfg0.N) (r : Fin 32) (k : ℕ) (hk : k < 50) (l : Fin 512)
    (h : 25600 * t.val + (512 * k + l.val) < 100000) :
    (k0_pay3 (nodes m c t) : FVec Ideal S32x25600 .f32) (ix2 r (lane k hk l)) * blockWeights m c t (ix2 0 (lane k hk l))
      = extend (featureOf m c r) (512 * (50 * t.val + k) + l.val) := by
  unfold k0_pay3
  simp only [shapeCast_self]
  rw [blockWeights_apply m c t 0 (lane k hk l) h, nodes_apply m c t r (lane k hk l) h]
  refine (extend_of_lt (featureOf m c r) _ h).symm.trans (congrArg _ ?_)
  show 25600 * t.val + (512 * k + l.val) = _
  omega

/-! ## A step of the accumulation -/

/-- A point before the last adds fifty rows of weighted features. -/
theorem step_features (c : Dev nD) (t : Fin cfg0.N) (ht : t.val < 3) (a : Vec Ideal S32x512 .f32 × Vec Ideal S8x512 .f32)
    (r : Fin 32) (l : Fin 512) :
    (stepAt m c t a).1 (ix2 r l)
      = a.1 (ix2 r l) + ∑ k ∈ Finset.range 50, extend (featureOf m c r) (512 * (50 * t.val + k) + l.val) := by
  unfold stepAt
  rw [if_pos ht]
  dsimp only
  rw [avInner_eq, over_addAv_apply, Finset.sum_range]
  refine congrArg (_ + ·) (Finset.sum_congr rfl fun k _ => feature_lane m c t r k.val k.isLt l ?_)
  have := k.isLt
  have := l.isLt
  omega

/-- A point before the last adds fifty rows of weights. -/
theorem step_weights (c : Dev nD) (t : Fin cfg0.N) (ht : t.val < 3) (a : Vec Ideal S32x512 .f32 × Vec Ideal S8x512 .f32)
    (s : Fin 8) (l : Fin 512) :
    (stepAt m c t a).2 (ix2 s l)
      = a.2 (ix2 s l) + ∑ k ∈ Finset.range 50, extend (weightOf m c) (512 * (50 * t.val + k) + l.val) := by
  unfold stepAt
  rw [if_pos ht]
  dsimp only
  rw [aeInner_eq, over_addAe_apply, Finset.sum_range]
  refine congrArg (_ + ·) (Finset.sum_congr rfl fun k _ => blockWeights_lane m c t s k.val k.isLt l ?_)
  have := k.isLt
  have := l.isLt
  omega

/-- The last point adds forty-five rows of weighted features and the part of one more that is inside the array. -/
theorem last_features (c : Dev nD) (t : Fin cfg0.N) (ht : t.val = 3) (a : Vec Ideal S32x512 .f32 × Vec Ideal S8x512 .f32)
    (r : Fin 32) (l : Fin 512) :
    (stepAt m c t a).1 (ix2 r l)
      = a.1 (ix2 r l) + ∑ k ∈ Finset.range 45, extend (featureOf m c r) (512 * (150 + k) + l.val)
        + if l.val < 160 then extend (featureOf m c r) (512 * 195 + l.val) else 0 := by
  have hl := l.isLt
  unfold stepAt
  rw [if_neg (by omega)]
  dsimp only
  rw [avLast_eq]
  refine congrArg₂ (· + ·) ?_ ?_
  · rw [over_addAv_apply, Finset.sum_range]
    refine congrArg (_ + ·) (Finset.sum_congr rfl fun k _ => ?_)
    have := k.isLt
    rw [feature_lane m c t r k.val (by omega) l (by omega), ht]
  · rw [cutV_apply]
    split
    · rw [feature_lane m c t r 45 (by omega) l (by omega), ht]
    · rfl

/-- The last point adds forty-five rows of weights and the part of one more that is inside the array. -/
theorem last_weights (c : Dev nD) (t : Fin cfg0.N) (ht : t.val = 3) (a : Vec Ideal S32x512 .f32 × Vec Ideal S8x512 .f32)
    (s : Fin 8) (l : Fin 512) :
    (stepAt m c t a).2 (ix2 s l)
      = a.2 (ix2 s l) + ∑ k ∈ Finset.range 45, extend (weightOf m c) (512 * (150 + k) + l.val)
        + if l.val < 160 then extend (weightOf m c) (512 * 195 + l.val) else 0 := by
  have hl := l.isLt
  unfold stepAt
  rw [if_neg (by omega)]
  dsimp only
  rw [aeLast_eq]
  refine congrArg₂ (· + ·) ?_ ?_
  · rw [over_addAe_apply, Finset.sum_range]
    refine congrArg (_ + ·) (Finset.sum_congr rfl fun k _ => ?_)
    have := k.isLt
    rw [blockWeights_lane m c t s k.val (by omega) l (by omega), ht]
  · rw [cutE_apply]
    split
    · rw [blockWeights_lane m c t s 45 (by omega) l (by omega), ht]
    · rfl

/-! ## The accumulators -/

/-- Fifty more rows after `q`. -/
theorem more_rows (f : ℕ → EReal) (q d l : ℕ) :
    ∑ k ∈ Finset.range q, f (512 * k + l) + ∑ k ∈ Finset.range d, f (512 * (q + k) + l) = ∑ k ∈ Finset.range (q + d), f (512 * k + l) :=
  (Finset.sum_range_add (fun k => f (512 * k + l)) q d).symm

/-- The accumulators before the last point: all rows so far. -/
theorem scratch_rows (c : Dev nD) (n : ℕ) (hn : n < 3) (l : Fin 512) (h : n < cfg0.N) :
    (∀ r : Fin 32, (scratchAfter m c n h).1 (ix2 r l) = ∑ k ∈ Finset.range (50 * n + 50), extend (featureOf m c r) (512 * k + l.val))
    ∧ ∀ s : Fin 8, (scratchAfter m c n h).2 (ix2 s l) = ∑ k ∈ Finset.range (50 * n + 50), extend (weightOf m c) (512 * k + l.val) := by
  induction n with
  | zero =>
    refine ⟨fun r => (step_features m c ⟨0, h⟩ hn _ r l).trans ?_, fun s => (step_weights m c ⟨0, h⟩ hn _ s l).trans ?_⟩
    · have h0 : (k0_pay1 : FVec Ideal S32x512 .f32) (ix2 r l) = 0 := by
        unfold k0_pay1
        simp only [shapeCast_self]
        exact Ideal.ofBits_zero_f32
      show (k0_pay1 : FVec Ideal S32x512 .f32) (ix2 r l) + _ = _
      rw [h0, zero_add]
      simp only [Nat.mul_zero, Nat.zero_add]
    · have h0 : (k0_pay2 : FVec Ideal S8x512 .f32) (ix2 s l) = 0 := by
        unfold k0_pay2
        simp only [shapeCast_self]
        exact Ideal.ofBits_zero_f32
      show (k0_pay2 : FVec Ideal S8x512 .f32) (ix2 s l) + _ = _
      rw [h0, zero_add]
      simp only [Nat.mul_zero, Nat.zero_add]
  | succ n ih =>
    obtain ⟨iv, ie⟩ := ih (by omega) (by omega)
    refine ⟨fun r => (step_features m c ⟨n + 1, h⟩ hn _ r l).trans ?_, fun s => (step_weights m c ⟨n + 1, h⟩ hn _ s l).trans ?_⟩
    · rw [iv r]
      exact more_rows _ (50 * n + 50) 50 l.val
    · rw [ie s]
      exact more_rows _ (50 * n + 50) 50 l.val

/-- The feature accumulator's row `r`, all lanes together, at the end: the sum of all nodes' weighted feature `r`. -/
theorem features_total (c : Dev nD) (t : Fin cfg0.N) (ht : t.val = 3) (r : Fin 32) :
    ∑ l : Fin 512, (scratchAfter m c t.val t.isLt).1 (ix2 r l) = ∑ i, featureOf m c r i := by
  obtain ⟨n, hn⟩ := t
  obtain rfl : n = 3 := ht
  refine Eq.trans ?_ ((sum_all (extend (featureOf m c r))).trans (sum_extend _))
  refine Finset.sum_congr rfl fun l _ => ?_
  refine (last_features m c ⟨3, hn⟩ rfl _ r l).trans ?_
  rw [(scratch_rows m c 2 (by omega) l (by omega)).1 r]
  exact congrArg (· + _) (more_rows _ 150 45 l.val)

/-- The weight accumulator's row `s`, all lanes together, at the end: the sum of all nodes' weights. -/
theorem weights_total (c : Dev nD) (t : Fin cfg0.N) (ht : t.val = 3) (s : Fin 8) :
    ∑ l : Fin 512, (scratchAfter m c t.val t.isLt).2 (ix2 s l) = ∑ i, weightOf m c i := by
  obtain ⟨n, hn⟩ := t
  obtain rfl : n = 3 := ht
  refine Eq.trans ?_ ((sum_all (extend (weightOf m c))).trans (sum_extend _))
  refine Finset.sum_congr rfl fun l _ => ?_
  refine (last_weights m c ⟨3, hn⟩ rfl _ s l).trans ?_
  rw [(scratch_rows m c 2 (by omega) l (by omega)).2 s]
  exact congrArg (· + _) (more_rows _ 150 45 l.val)

end Cert.KernelIdeal.Hand

end
-- ==== Proof.Run.Head.lean ====
/- The last point's answer over the reals: the accumulators' lanes are added up, the features divided by the total weight,
   and the classifier applied. The total weight is taken from eight equal rows, an eighth of their sum. -/
module

public import proofs.«01_k».proof.Proof.Run.Body
public import proofs.«01_k».proof.Proof.Run.Sums
public import proofs.«01_k».proof.Proof.Math.Network

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Network

/-- A reshape keeps the sum of the entries. -/
theorem sum_shapeCast {s t : Shape} (x : s.Idx → EReal) (h : s.ShapeCasts t) : ∑ i : t.Idx, shapeCast t x h i = ∑ i : s.Idx, x i := by
  exact Equiv.sum_comp (Shape.reshapeEquiv h) x

/-- The constant one eighth. -/
theorem ofBits_eighth : Ideal.ofBits .f32 0x3E000000#32 = ((1 / 8 : ℝ) : EReal) := by
  simp [Ideal.ofBits, Ideal.ieee, -EReal.coe_mul]; norm_num

/-- An eighth of eight equal numbers. -/
theorem eighth_of_eight (w : EReal) : (∑ _s : Fin 8, w) * ((1 / 8 : ℝ) : EReal) = w := by
  induction w using EReal.rec with
  | bot =>
    simp only [Fin.sum_univ_eight, EReal.bot_add]
    exact EReal.bot_mul_coe_of_pos (by norm_num)
  | coe r =>
    simp only [Fin.sum_univ_eight]
    norm_cast
    ring
  | top =>
    simp only [Fin.sum_univ_eight, EReal.top_add_top]
    exact EReal.top_mul_coe_of_pos (by norm_num)

/-- All lanes of all eight rows. -/
theorem pay135_apply (s : FVec Ideal S8x512 .f32) (W : EReal) (hs : ∀ q : Fin 8, ∑ l : Fin 512, s (ix2 q l) = W) (j : S1.Idx) :
    (k0_pay135 (F := Ideal) s) j = ∑ _s : Fin 8, W := by
  unfold k0_pay135
  refine (Ideal.reduceAdd_total reduces_S1x8x512_S1 (by decide) _ j).trans ?_
  rw [sum_shapeCast, sum_idx2]
  exact Finset.sum_congr rfl fun q _ => hs q

/-- The features' row sums over the total weight. -/
theorem quotient_apply (a : FVec Ideal S32x512 .f32) (W : EReal) (A : Fin 32 → EReal) (ha : ∀ r : Fin 32, ∑ l : Fin 512, a (ix2 r l) = A r)
    (d : EReal) (r : Fin 32) :
    divf (shapeCast S32x1 (multiReduction (F := Ideal) .add [1] S32 a 0x00000000#32 reduces_S32x512_S32 (.inl rfl) rfl) shapeCasts_S32_S32x1)
      (broadcast S32x1 d) (ix2 r 0) = Ideal.div (A r) d := by
  refine congrArg (fun y => Ideal.div y d) ?_
  refine (shapeCast_apply _ _ _ (ix1 r) ?_).trans ?_
  · simp only [Shape.rowMajor_val_two, Shape.rowMajor_val_one]
    show r.val = r.val * 1 + 0
    omega
  · refine (Ideal.multiReduction_add_single a _ reduces_S32x512_S32 _ _ (ix1 r)).trans ((Finset.sum_congr rfl fun l _ => congrArg a ?_).trans (ha r))
    exact Shape.idx_ext₂ rfl rfl

/-- A layer of the classifier as the last point computes it: weights transposed, input and bias columns. -/
theorem layer_apply {a b : ℕ} (x : FVec Ideal ⟨2, ![b, a]⟩ .f32) (v : FVec Ideal ⟨2, ![a, 1]⟩ .f32) (y : FVec Ideal ⟨2, ![b, 1]⟩ .f32)
    (w : Mat a b) (u : Col b) (g : Fin a → EReal) (hx : ∀ k j, x (ix2 k j) = w (ix2 j k)) (hv : ∀ j, v (ix2 j 0) = g j)
    (hy : ∀ k, y (ix2 k 0) = u (ix1 k)) (k : Fin b) :
    addf (matmul (DotDims.plain b a 1) none x v (constant ⟨2, ![b, 1]⟩ .f32 0x00000000#32)) y (ix2 k 0) = layer w u g k := by
  refine congrArg₂ (· + ·) ((plain_zero x v k 0).trans (Finset.sum_congr rfl fun j _ => ?_)) (hy k)
  rw [hx, hv, mul_comm]

/-- The answer from accumulators whose lanes add up to `A` and `W`: the classifier on the weighted mean's features. -/
theorem answer_apply (a : FVec Ideal S32x512 .f32) (s : FVec Ideal S8x512 .f32) (x4 : FVec Ideal S128x32 .f32) (x5 : FVec Ideal S128x1 .f32)
    (x6 : FVec Ideal S64x128 .f32) (x7 : FVec Ideal S64x1 .f32) (x8 : FVec Ideal S1x64 .f32) (x9 : FVec Ideal S1x1 .f32)
    (A : Fin 32 → EReal) (W : EReal) (ha : ∀ r : Fin 32, ∑ l : Fin 512, a (ix2 r l) = A r) (hs : ∀ q : Fin 8, ∑ l : Fin 512, s (ix2 q l) = W)
    (w1 : Mat 32 128) (v1 : Col 128) (w2 : Mat 128 64) (v2 : Col 64) (w3 : Mat 64 1) (v3 : Col 1)
    (h4 : ∀ k j, x4 (ix2 k j) = w1 (ix2 j k)) (h5 : ∀ k, x5 (ix2 k 0) = v1 (ix1 k)) (h6 : ∀ k j, x6 (ix2 k j) = w2 (ix2 j k))
    (h7 : ∀ k, x7 (ix2 k 0) = v2 (ix1 k)) (h8 : ∀ k j, x8 (ix2 k j) = w3 (ix2 j k)) (h9 : ∀ k, x9 (ix2 k 0) = v3 (ix1 k)) :
    (answer a s x4 x5 x6 x7 x8 x9 : FVec Ideal S1x1 .f32) (ix2 0 0)
      = classify w1 v1 w2 v2 w3 v3 (fun r => Ideal.div (A r) (W + eps)) := by
  unfold answer k0_pay136
  simp only [shapeCast_self]
  refine congrArg Ideal.logistic (layer_apply _ _ _ w3 v3 _ h8 (fun k => ?_) h9 0)
  refine congrArg₂ max (layer_apply x6 _ x7 w2 v2 _ h6 (fun j => ?_) h7 k) Ideal.ofBits_zero_f32
  refine congrArg₂ max (layer_apply x4 _ x5 w1 v1 _ h4 (fun r => ?_) h5 j) Ideal.ofBits_zero_f32
  refine (quotient_apply a W A ha _ r).trans (congrArg (Ideal.div (A r)) ?_)
  refine congrArg (· + eps) ?_
  exact (congrArg₂ (· * ·) (pay135_apply s W hs _) ofBits_eighth).trans (eighth_of_eight W)

end Cert.KernelIdeal.Hand

end
-- ==== Proof.Run.Value.lean ====
/- The kernel's result over the reals, at the program's arguments: the classifier on the mean of the nodes' features,
   weighted by the exponentials of their attention scores. -/
module

public import proofs.«01_k».proof.Proof.Run.Total
public import proofs.«01_k».proof.Proof.Run.Head

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Cert.Lanes Cert.Network

variable (m : (ℓ : Loc nD τ sig) → Buf (Elt Ideal) ℓ) (ρ : Dev nD → PrngReg)

/-- The network's output at the program's arguments. -/
def output (c : Dev nD) : EReal :=
  classify (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (fun r => Ideal.div (∑ i, featureOf m c r i) (∑ i, weightOf m c i + eps))

/-- A one-by-one array has one index. -/
theorem one_by_one (i : S1x1.Idx) : i = ix2 0 0 := by
  refine Shape.idx_ext₂ ?_ ?_
  · have : (i 0).val < 1 := (i 0).isLt
    show (i 0).val = 0
    omega
  · have : (i 1).val < 1 := (i 1).isLt
    show (i 1).val = 0
    omega

/-- What the last point writes is the network's output. -/
theorem answerAt_apply (c : Dev nD) (t : Fin cfg0.N) (ht : t.val = 3) (i : S1x1.Idx) : answerAt m c t i = output m c := by
  rw [one_by_one i]
  exact answer_apply _ _ _ _ _ _ _ _ _ _ (features_total m c t ht) (weights_total m c t ht) _ _ _ _ _ _
    (block_4 m c t) (block_5 m c t) (block_6 m c t) (block_7 m c t) (block_8 m c t) (block_9 m c t)

/-- The result's window is on the one block there is. -/
theorem result_index : ∀ (t : Fin grid0.N) (a : Fin 2), win0_10.index t a = 0 := by decide +kernel

/-- Which indices of the result's array a block covers. -/
theorem mem_result (t : Fin cfg0.N) (i : S1x1.Idx) :
    i ∈ ((cfg0.win 10).blk t).view.set ↔ ∀ a : Fin 2, win0_10.index t a * S1x1.size a ≤ (i a).val ∧ (i a).val < win0_10.index t a * S1x1.size a + S1x1.size a := by
  show i ∈ ((View.whole main_v13).slice (win0_10.rect t)).set ↔ _
  rw [View.set_slice_whole, Rect.mem_set_unit]
  exact Iff.rfl

/-- A block of a constant array is constant. -/
theorem read_const (t : Fin cfg0.N) (x : EReal) (y) : ((cfg0.win 10).blk t).view.read (Elt Ideal) (fun _ => x) y = x := rfl

/-- The result's array after the run. -/
theorem result_array (c : Dev nD) : (dats m 0 c).arrAt 10 cfg0.N = fun _ => output m c := by
  refine (dats m 0 c).arrAt_eq_of_cover 10 _ (fun t hf => ?_) (fun i => ?_)
  · have h3 : t.val = 3 := by
      have := (flush0_10 t).mp hf
      have := t.isLt
      have hN : cfg0.N = 4 := by decide
      omega
    have ha : (dats m 0 c).after 10 t = answerAt m c t := by dsimp only [dats]
    funext y
    have hl : (dats m 0 c).flushed 10 t y = output m c := by
      show (cfg0.win 10).cut (grid0.coords t) ((dats m 0 c).after 10 t) y = output m c
      rw [ha]
      exact answerAt_apply m c t h3 ((cfg0.win 10).xinj (grid0.coords t) y)
    exact hl.trans (read_const t (output m c) y).symm
  · refine ⟨⟨3, by decide⟩, (flush0_10 _).mpr rfl, (mem_result _ i).mpr fun a => ?_⟩
    have h1 : (i a).val < S1x1.size a := (i a).isLt
    rw [result_index]
    omega

/-- The result after the last line of the program, which lays the array out as a vector. -/
theorem result_tail (c : Dev nD) :
    Pipeline.afterTail₀ cfgs (dats m) 0 (V0 m) [hostOps1] c main_v14 = fun _ => output m c := by
  have hv : Pipeline.withArrays spec0 c (V0 m c) (fun w => (dats m 0 c).arrAt w cfg0.N) (Proc.devRef .tc main_v13) = fun _ => output m c :=
    (Pipeline.withArrays_arr spec0 launch0.win.arr_inj c (V0 m c) (fun w => (dats m 0 c).arrAt w cfg0.N) 10).trans (result_array m c)
  show StableHlo.after [hostOps1].flatten (Pipeline.withArrays spec0 c (V0 m c) fun w => (dats m 0 c).arrAt w cfg0.N) (Proc.devRef .tc main_v14) = _
  generalize Pipeline.withArrays spec0 c (V0 m c) (fun w => (dats m 0 c).arrAt w cfg0.N) = W at hv ⊢
  simp only [List.flatten_cons, List.flatten_nil, List.append_nil, List.cons_append, List.nil_append]
  after_results_simp
  rw [hv]
  rfl

/-- The kernel's run over the reals: its result is the network's output, its arguments are unchanged. -/
theorem run_value : θ_run defs (onTc (τ := τ) (main (F := Ideal))) ⟨m, fun _ => 0, ρ⟩ fun r => ∀ c : Dev nD,
      r.2.mem ((c.tc : Thread nD τ).loc main_v14) = (fun _ => output m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have hpost := (θ_run defs _ _).mono (fun _ h => h.1) (run_main m ρ)
  refine (θ_run defs _ _).mono (fun r h c => ⟨?_, h.2 c⟩) (θ_run_and hpost (frame_of m ρ (dats m) (A_eq m) hpost))
  exact (((h.1 c).2 main_v14 (Pipeline.mem_restRefs_of main_v14 (by decide) (by decide))).trans (result_tail m c))

end Cert.KernelIdeal.Hand

end
-- ==== Proof.Ref.Terms.lean ====
/- The reference's result, cut into named stages: the scores, their maximum, the shifted weights, their segment sum, the
   shares, the pooled features, the classifier. -/
module

public import proofs.«01_k».proof.Proof.Gen.ReferenceIdeal.Run
public import proofs.«01_k».proof.Proof.Math.Network

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.ValueIdx
open Cert.Network

/-- The scores of all nodes. -/
def scores (z : FVec Ideal S100000x32 .f32) (w1 : FVec Ideal S32x32 .f32) (b1 : FVec Ideal S32 .f32) (w2 : FVec Ideal S32x1 .f32)
    (b2 : FVec Ideal S1 .f32) : FVec Ideal S100000 .f32 :=
  shapeCast _ (addf (Host.dotGeneral dot_S100000x32_S32x1_S100000x1_1_0_0_1_n_n none
    (Host.tanh (addf (Host.dotGeneral dot_S100000x32_S32x32_S100000x32_1_0_0_1_n_n none z w1)
      (broadcastInDim S100000x32 ![0, 1] bcast_S1x32_S100000x32_0_1 (broadcastInDim S1x32 ![1] bcast_S32_S1x32_1 b1)))) w2)
    (broadcastInDim S100000x1 ![0, 1] bcast_S1x1_S100000x1_0_1 (broadcastInDim S1x1 ![1] bcast_S1_S1x1_1 b2))) shapeCasts_S100000x1_S100000

/-- The greatest score. -/
def shift (s : FVec Ideal S100000 .f32) : FVec Ideal S_ .f32 :=
  Host.reduce FloatOps.maximumf s (constant S_ .f32 0xFF800000#32) reducesTo_S100000_S_d0 h_S_

/-- The exponentials of the shifted scores. -/
def weights (s : FVec Ideal S100000 .f32) (M : FVec Ideal S_ .f32) : FVec Ideal S100000 .f32 :=
  Host.exp (subf s (broadcastInDim S100000 ![] bcast_S_S100000 M))

/-- Every node's graph: the first. -/
def graphs : IVec S100000 32 := broadcastInDim S100000 ![] bcast_S_S100000 (constantI S_ 32 0#32)

/-- The same, as a column of indices. -/
def column : IVec S100000x1 32 := broadcastInDim S100000x1 ![0] bcast_S100000_S100000x1_0 graphs

/-- The same again, after the wrap of negative indices. -/
def wrapped : IVec S100000x1 32 :=
  broadcastInDim S100000x1 ![0] bcast_S100000_S100000x1_0
    (select (cmpi .slt graphs graphs) (addi graphs (broadcastInDim S100000 ![] bcast_S_S100000 (constantI S_ 32 1#32))) graphs)

/-- The weights' sum, graph by graph. -/
def total (e : FVec Ideal S100000 .f32) : FVec Ideal S1 .f32 :=
  Host.scatterAdd scatter_S1_S100000x1_S100000_n_0_0_1 (broadcastInDim S1 ![] bcast_S_S1 (constant (F := Ideal) S_ .f32 0x00000000#32)) column e

/-- The guard at the scale of the shifted weights. -/
def guard (b2 : FVec Ideal S1 .f32) (M : FVec Ideal S_ .f32) : FVec Ideal S1 .f32 :=
  mulf (broadcastInDim S1 ![] bcast_S_S1 (constant (F := Ideal) S_ .f32 0x322BCC77#32))
    (Host.exp (subf b2 (broadcastInDim S1 ![] bcast_S_S1 M)))

/-- Every node's share. -/
def shares (e : FVec Ideal S100000 .f32) (t g : FVec Ideal S1 .f32) : FVec Ideal S100000 .f32 :=
  Host.divf e (addf (Host.gather gather_S1_S100000x1_S100000_n_0_n_n_0_1_1 t wrapped) (broadcastInDim S100000 ![0] bcast_S1_S100000_0 g))

/-- The features' weighted sums, graph by graph. -/
def pooled (z : FVec Ideal S100000x32 .f32) (a : FVec Ideal S100000 .f32) : FVec Ideal S1x32 .f32 :=
  Host.scatterAdd scatter_S1x32_S100000x1_S100000x32_1_0_0_1 (broadcastInDim S1x32 ![] bcast_S_S1x32 (constant (F := Ideal) S_ .f32 0x00000000#32)) column
    (mulf z (broadcastInDim S100000x32 ![0, 1] bcast_S100000x1_S100000x32_0_1 (broadcastInDim S100000x1 ![0] bcast_S100000_S100000x1_0 a)))

/-- The classifier's last layer, before the logistic function. -/
def last (g : FVec Ideal S1x32 .f32) (w1 : FVec Ideal S32x128 .f32) (v1 : FVec Ideal S128 .f32) (w2 : FVec Ideal S128x64 .f32)
    (v2 : FVec Ideal S64 .f32) (w3 : FVec Ideal S64x1 .f32) (v3 : FVec Ideal S1 .f32) : FVec Ideal S1x1 .f32 :=
  addf (Host.dotGeneral dot_S1x64_S64x1_S1x1_1_0_0_1_n_n none
    (maximumf (addf (Host.dotGeneral dot_S1x128_S128x64_S1x64_1_0_0_1_n_n none
      (maximumf (addf (Host.dotGeneral dot_S1x32_S32x128_S1x128_1_0_0_1_n_n none g w1) (broadcastInDim S1x128 ![1] bcast_S128_S1x128_1 v1))
        (broadcastInDim S1x128 ![] bcast_S_S1x128 (constant (F := Ideal) S_ .f32 0x00000000#32))) w2) (broadcastInDim S1x64 ![1] bcast_S64_S1x64_1 v2))
      (broadcastInDim S1x64 ![] bcast_S_S1x64 (constant (F := Ideal) S_ .f32 0x00000000#32))) w3) (broadcastInDim S1x1 ![1] bcast_S1_S1x1_1 v3)

/-- The logistic function, as the reference spells it. -/
def squash (x : FVec Ideal S1x1 .f32) : FVec Ideal S1 .f32 :=
  shapeCast _ (Host.divf (broadcastInDim S1x1 ![] bcast_S_S1x1 (constant (F := Ideal) S_ .f32 0x3F800000#32))
    (addf (broadcastInDim S1x1 ![] bcast_S_S1x1 (constant (F := Ideal) S_ .f32 0x3F800000#32)) (Host.exp (Host.negf x)))) shapeCasts_S1x1_S1

/-- All stages but the classifier, from the scores on. -/
def graph (z : FVec Ideal S100000x32 .f32) (s : FVec Ideal S100000 .f32) (b2 : FVec Ideal S1 .f32) : FVec Ideal S1x32 .f32 :=
  pooled z (shares (weights s (shift s)) (total (weights s (shift s))) (guard b2 (shift s)))

variable (m : (ℓ : Loc nD τ sig) → Buf (Elt Ideal) ℓ) (c : Dev nD)

/-- The reference's result is its stages, one after the other. -/
theorem result_eq : res_main_v56 m c
    = squash (last (graph (m ((c : Thread nD τ).loc main_arg0))
        (scores (m ((c : Thread nD τ).loc main_arg0)) (m ((c : Thread nD τ).loc main_arg1)) (m ((c : Thread nD τ).loc main_arg2))
          (m ((c : Thread nD τ).loc main_arg3)) (m ((c : Thread nD τ).loc main_arg4))) (m ((c : Thread nD τ).loc main_arg4)))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))) := by
  unfold res_main_v56 squash last graph pooled shares guard total weights shift scores wrapped column graphs
  rfl

end Cert.ReferenceIdeal.Hand

end
-- ==== Proof.Ref.Nodes.lean ====
/- The reference's nodes: their scores, the greatest score, the shifted weights and the shares, each at an index. -/
module

public import proofs.«01_k».proof.Proof.Ref.Terms
public import proofs.«01_k».proof.Proof.Math.Attention
public import Idealize.ShloMosaic.Lib.StackMember
public import Idealize.ShloMosaic.Lib.Routing.OpsPair
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Network Cert.Attention

/-- A fully connected layer as the reference computes it: a product and a bias row that every row gets. -/
theorem layer_apply {n a b : ℕ} (x : FVec Ideal ⟨2, ![n, a]⟩ .f32) (w : FVec Ideal ⟨2, ![a, b]⟩ .f32) (y : FVec Ideal ⟨2, ![n, b]⟩ .f32)
    (v : Col b) (g : Fin a → EReal) (i : Fin n) (hx : ∀ j, x (ix2 i j) = g j) (k : Fin b) (hy : y (ix2 i k) = v (ix1 k)) :
    addf (Host.dotGeneral (DotDims.plain n a b) none x w) y (ix2 i k) = layer w v g k := by
  refine congrArg₂ (· + ·) ((StackMember.dotGeneral_plain_apply none x w i k).trans (Finset.sum_congr rfl fun j _ => ?_)) hy
  rw [hx]

/-- A scalar spread over an array, at an index. -/
theorem spread_apply {α : Type} {t : Shape} (x : S_.Idx → α) (h : S_.BroadcastsInDim t (![] : Fin 0 → Fin t.rank)) (j : t.Idx) :
    broadcastInDim t ![] h x j = x ix0 :=
  broadcastInDim_apply _ _ _ _ _ fun a => a.elim0

/-- A one-entry vector has one index. -/
theorem one_entry (i : S1.Idx) : i = ix1 0 := by
  rw [eq_ix1 i]
  exact congrArg ix1 (Subsingleton.elim (α := Fin 1) _ _)

/-- A node's score is its logit plus the scoring bias. -/
theorem scores_apply (z : Mat 100000 32) (w1 : Mat 32 32) (b1 : Col 32) (w2 : Mat 32 1) (b2 : Col 1) (i : Fin 100000) :
    scores z w1 b1 w2 b2 (ix1 i) = logit z w1 b1 w2 i + b2 (ix1 0) := by
  unfold scores
  refine (shapeCast_apply _ _ _ (ix2 i 0) ?_).trans ?_
  · simp only [Shape.rowMajor_val_two, Shape.rowMajor_val_one]
    show i.val * 1 + 0 = i.val
    omega
  · refine (layer_apply _ w2 _ b2 (fun k => Ideal.tanh (layer w1 b1 (fun j => z (ix2 i j)) k)) i (fun k => congrArg Ideal.tanh ?_) 0 ?_)
    · refine layer_apply z w1 _ b1 _ i (fun _ => rfl) k ?_
      refine (broadcastInDim_apply _ _ _ _ (ix2 0 k) fun a => ?_).trans (broadcastInDim_apply _ _ _ _ (ix1 k) fun a => ?_)
      · match a with
        | ⟨0, _⟩ => exact (if_pos rfl).symm
        | ⟨1, _⟩ => exact (if_neg (show ¬(32 : ℕ) = 1 by decide)).symm
      · match a with
        | ⟨0, _⟩ => exact (if_neg (show ¬(32 : ℕ) = 1 by decide)).symm
    · exact congrArg b2 (one_entry _)

/-- The constant from which the maximum is taken. -/
theorem ofBits_negInf : Ideal.ofBits .f32 0xFF800000#32 = ⊥ := by
  simp [Ideal.ofBits, Ideal.ieee]

/-- The greatest of real scores is real. -/
theorem isReal_shift (s : FVec Ideal S100000 .f32) (h : ∀ i, IsReal (s i)) : IsReal (shift s ix0) := by
  have e : shift s ix0 = ((Finset.univ.filter fun i => reducesTo_S100000_S_d0.drop i = ix0).fold max ⊥ s : EReal) := by
    unfold shift
    refine (Host.reduce_eq_fold (max : EReal → EReal → EReal) s _ reducesTo_S100000_S_d0 h_S_ ix0).trans ?_
    exact congrArg (fun b => Finset.fold max b s _) ofBits_negInf
  rw [e]
  refine isReal_max _ _ h ⟨ix1 0, Finset.mem_filter.2 ⟨Finset.mem_univ _, eq_ix0 _⟩⟩

/-- A node's weight is the exponential of its shifted score. -/
theorem weights_apply (s : FVec Ideal S100000 .f32) (M : FVec Ideal S_ .f32) (i : S100000.Idx) :
    weights s M i = Ideal.exp ((s i : EReal) - M ix0) := by
  refine congrArg (fun y => Ideal.exp ((s i : EReal) - y)) ?_
  exact spread_apply M _ i

/-- The guard at the scale of the shifted weights. -/
theorem guard_apply (b2 : Col 1) (M : FVec Ideal S_ .f32) (i : S1.Idx) :
    guard b2 M i = eps * Ideal.exp (b2 (ix1 0) - (M ix0 : EReal)) := by
  refine congrArg (fun y => eps * Ideal.exp y) ?_
  exact congrArg₂ (fun x y : EReal => x - y) (congrArg b2 (one_entry i)) (spread_apply M _ i)

/-- A node's share: its weight over the only graph's total plus the guard. -/
theorem shares_apply (e : FVec Ideal S100000 .f32) (t g : FVec Ideal S1 .f32) (i : S100000.Idx) :
    shares e t g i = Ideal.div (e i) ((t (ix1 0) : EReal) + g (ix1 0)) := by
  refine congrArg (fun y => Ideal.div (e i) y) ?_
  exact congrArg₂ (fun x y : EReal => x + y) (congrArg t (one_entry _)) (congrArg g (one_entry _))

end Cert.ReferenceIdeal.Hand

end
-- ==== Proof.Ref.Segments.lean ====
/- The reference's segment sums. Every node belongs to the first graph, so a segment sum is the sum over all nodes. -/
module

public import proofs.«01_k».proof.Proof.Ref.Terms
public import Idealize.ShloMosaic.Lib.Routing.OpsPair
public import Idealize.ShloMosaic.Lib.IdealHost
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Network

/-- Every node's index is zero. -/
theorem column_apply (k : S100000x1.Idx) : column k = 0#32 := rfl

/-- Every node's weight is added to the first graph's. -/
theorem lands_total (k : S100000.Idx) : scatter_S1_S100000x1_S100000_n_0_0_1.resultIdx? k column = some (ix1 0) := by
  refine (Routing.resultIdx?_ix1 (N := 1) _ k column 0).2 ?_
  have h1 : scatter_S1_S100000x1_S100000_n_0_0_1.start k column 0 = 0 := by
    unfold ScatterDims.start
    split <;> rfl
  have h2 : scatter_S1_S100000x1_S100000_n_0_0_1.window k 0 = 0 := by
    unfold ScatterDims.window
    exact dif_neg (by decide)
  rw [h1, h2]
  rfl

/-- The total weight is the sum over all nodes. -/
theorem total_apply (e : FVec Ideal S100000 .f32) (i : S1.Idx) : total e i = ∑ k : Fin 100000, (e (ix1 k) : EReal) := by
  have hi : i = ix1 0 := by
    rw [eq_ix1 i]
    exact congrArg ix1 (Subsingleton.elim (α := Fin 1) _ _)
  subst hi
  show Ideal.ofBits .f32 0x00000000#32 + ∑ k ∈ Finset.univ.filter
    (fun k => scatter_S1_S100000x1_S100000_n_0_0_1.resultIdx? k column = some (ix1 0)), (e k : EReal) = _
  rw [Ideal.ofBits_zero_f32, zero_add, Finset.filter_true_of_mem fun k _ => lands_total k]
  exact (Fintype.sum_equiv ⟨fun k => ix1 k, fun i => i 0, fun _ => rfl, fun i => (eq_ix1 i).symm⟩ (fun k : Fin 100000 => (e (ix1 k) : EReal))
    (fun k => (e k : EReal)) fun _ => rfl).symm

/-- A node's feature is added to the same feature of the first graph. -/
theorem lands_pooled (i : Fin 100000) (r q : Fin 32) :
    scatter_S1x32_S100000x1_S100000x32_1_0_0_1.resultIdx? (ix2 i q) column = some (ix2 0 r) ↔ q = r := by
  refine (Routing.resultIdx?_ix2 (R := 1) (C := 32) _ (ix2 i q) column 0 r).trans ?_
  have h1 : scatter_S1x32_S100000x1_S100000x32_1_0_0_1.start (ix2 i q) column 0 = 0 := by
    unfold ScatterDims.start
    split <;> rfl
  have h2 : scatter_S1x32_S100000x1_S100000x32_1_0_0_1.window (ix2 i q) 0 = 0 := by
    unfold ScatterDims.window
    exact dif_neg (by decide)
  have h3 : scatter_S1x32_S100000x1_S100000x32_1_0_0_1.start (ix2 i q) column 1 = 0 := by
    unfold ScatterDims.start
    split <;> rfl
  have h4 : scatter_S1x32_S100000x1_S100000x32_1_0_0_1.window (ix2 i q) 1 = q.val := by
    unfold ScatterDims.window
    exact (dif_pos (by decide)).trans rfl
  rw [h1, h2, h3, h4]
  constructor
  · intro h
    have := h.2
    exact Fin.ext (by omega)
  · rintro rfl
    exact ⟨rfl, by omega⟩

/-- A pooled feature is the sum over all nodes of the feature times the node's share. -/
theorem pooled_apply (z : Mat 100000 32) (a : FVec Ideal S100000 .f32) (r : Fin 32) :
    pooled z a (ix2 0 r) = ∑ i : Fin 100000, z (ix2 i r) * (a (ix1 i) : EReal) := by
  have hu : ∀ (i : Fin 100000) (q : Fin 32), (broadcastInDim S100000x32 ![0, 1] bcast_S100000x1_S100000x32_0_1
      (broadcastInDim S100000x1 ![0] bcast_S100000_S100000x1_0 a)) (ix2 i q) = a (ix1 i) := fun i q => by
    refine (broadcastInDim_apply _ _ _ _ (ix2 i 0) fun d => ?_).trans (broadcastInDim_apply _ _ _ _ (ix1 i) fun d => ?_)
    · match d with
      | ⟨0, _⟩ => exact (if_neg (show ¬(100000 : ℕ) = 1 by decide)).symm
      | ⟨1, _⟩ => exact (if_pos rfl).symm
    · match d with
      | ⟨0, _⟩ => exact (if_neg (show ¬(100000 : ℕ) = 1 by decide)).symm
  show Ideal.ofBits .f32 0x00000000#32 + ∑ k ∈ Finset.univ.filter
    (fun k => scatter_S1x32_S100000x1_S100000x32_1_0_0_1.resultIdx? k column = some (ix2 0 r)),
      z k * ((broadcastInDim S100000x32 ![0, 1] bcast_S100000x1_S100000x32_0_1
        (broadcastInDim S100000x1 ![0] bcast_S100000_S100000x1_0 a)) k : EReal) = _
  rw [Ideal.ofBits_zero_f32, zero_add, Finset.sum_filter]
  refine (sum_idx2 _).trans (Finset.sum_congr rfl fun i _ => ?_)
  simp only [lands_pooled, Finset.sum_ite_eq', Finset.mem_univ, if_true]
  exact congrArg (fun y : EReal => z (ix2 i r) * y) (hu i r)

end Cert.ReferenceIdeal.Hand

end
-- ==== Proof.Ref.Value.lean ====
/- The reference's result over the reals, for finite scoring weights: the classifier on the mean of the nodes' features,
   weighted by the exponentials of the unshifted logits. -/
module

public import proofs.«01_k».proof.Proof.Ref.Nodes
public import proofs.«01_k».proof.Proof.Ref.Segments

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.ValueIdx
open Cert.Network Cert.Attention

/-- A bias row of a one-row array, at an index. -/
theorem bias_apply {b : ℕ} (hb : b ≠ 1) (v : FVec Ideal ⟨1, ![b]⟩ .f32) (h : (⟨1, ![b]⟩ : Shape).BroadcastsInDim ⟨2, ![1, b]⟩ ![1]) (k : Fin b) :
    broadcastInDim ⟨2, ![1, b]⟩ ![1] h v (ix2 0 k) = v (ix1 k) :=
  broadcastInDim_apply _ _ _ _ _ fun a => match a with
    | ⟨0, _⟩ => (if_neg hb).symm

/-- The greater of a number and a spread zero. -/
theorem relu_apply {t : Shape} (x : FVec Ideal t .f32) (h : S_.BroadcastsInDim t (![] : Fin 0 → Fin t.rank)) (j : t.Idx) (y : EReal) (hx : x j = y) :
    maximumf x (broadcastInDim t ![] h (constant (F := Ideal) S_ .f32 0x00000000#32)) j = max y 0 :=
  congrArg₂ max hx ((spread_apply _ h j).trans Ideal.ofBits_zero_f32)

/-- The classifier's last layer, at its only index. -/
theorem last_apply (g : FVec Ideal S1x32 .f32) (w1 : Mat 32 128) (v1 : Col 128) (w2 : Mat 128 64) (v2 : Col 64) (w3 : Mat 64 1) (v3 : Col 1)
    (f : Fin 32 → EReal) (hg : ∀ r, g (ix2 0 r) = f r) :
    last g w1 v1 w2 v2 w3 v3 (ix2 0 0)
      = layer w3 v3 (fun k => max (layer w2 v2 (fun j => max (layer w1 v1 f j) 0) k) 0) 0 := by
  unfold last
  refine layer_apply _ w3 _ v3 _ 0 (fun k => relu_apply _ _ _ _ ?_) 0 (congrArg v3 (one_entry _))
  refine layer_apply _ w2 _ v2 _ 0 (fun j => relu_apply _ _ _ _ ?_) k (bias_apply (by decide) v2 _ k)
  exact layer_apply g w1 _ v1 f 0 hg j (bias_apply (by decide) v1 _ j)

/-- The reference's spelling of the logistic function is the logistic function. -/
theorem squash_apply (x : FVec Ideal S1x1 .f32) (i : S1.Idx) : squash x i = Ideal.logistic (x (ix2 0 0)) := by
  rw [one_entry i]
  unfold squash
  refine (shapeCast_apply _ _ _ (ix2 0 0) ?_).trans ?_
  · simp only [Shape.rowMajor_val_two, Shape.rowMajor_val_one]
    rfl
  · have h1 : broadcastInDim S1x1 ![] bcast_S_S1x1 (constant (F := Ideal) S_ .f32 0x3F800000#32) (ix2 0 0) = (1 : EReal) :=
      (spread_apply _ _ _).trans Ideal.ofBits_one_f32
    exact congrArg₂ (fun a b : EReal => Ideal.div a (b + Ideal.exp (-(x (ix2 0 0) : EReal)))) h1 h1

/-- A feature of the graph, for real scoring weights: the nodes' weighted sum over the total weight plus the guard. -/
theorem graph_apply (z : Mat 100000 32) (w1 : Mat 32 32) (b1 : Col 32) (w2 : Mat 32 1) (b2 : Col 1) (hw : ∀ k, IsReal (w2 (ix2 k 0)))
    (hb : IsReal (b2 (ix1 0))) (r : Fin 32) :
    graph z (scores z w1 b1 w2 b2) b2 (ix2 0 r)
      = Ideal.div (∑ i, weighed z (fun i => Ideal.exp (logit z w1 b1 w2 i)) r i) (∑ i, Ideal.exp (logit z w1 b1 w2 i) + eps) := by
  have hs : ∀ i : S100000.Idx, IsReal (scores z w1 b1 w2 b2 i) := fun i => by
    obtain ⟨x, hx⟩ := (isReal_logit z w1 b1 w2 hw (i 0)).add hb
    exact ⟨x, (congrArg (scores z w1 b1 w2 b2) (eq_ix1 i)).trans ((scores_apply z w1 b1 w2 b2 (i 0)).trans hx)⟩
  have hM := isReal_shift _ hs
  unfold graph
  rw [pooled_apply]
  simp only [shares_apply, total_apply, guard_apply, weights_apply, scores_apply]
  exact weighted_mean _ _ _ _ (isReal_logit z w1 b1 w2 hw) hb hM

variable (m : (ℓ : Loc nD τ sig) → Buf (Elt Ideal) ℓ) (c : Dev nD)

/-- The reference's result at real scoring weights. -/
theorem result_value (hw : ∀ k : Fin 32, IsReal ((m ((c : Thread nD τ).loc main_arg3) : Mat 32 1) (ix2 k 0)))
    (hb : IsReal ((m ((c : Thread nD τ).loc main_arg4) : Col 1) (ix1 0))) :
    res_main_v56 m c = fun _ =>
      classify (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (fun r => Ideal.div
          (∑ i, weighed (m ((c : Thread nD τ).loc main_arg0)) (fun i => Ideal.exp (logit (m ((c : Thread nD τ).loc main_arg0))
            (m ((c : Thread nD τ).loc main_arg1)) (m ((c : Thread nD τ).loc main_arg2)) (m ((c : Thread nD τ).loc main_arg3)) i)) r i)
          (∑ i, Ideal.exp (logit (m ((c : Thread nD τ).loc main_arg0)) (m ((c : Thread nD τ).loc main_arg1))
            (m ((c : Thread nD τ).loc main_arg2)) (m ((c : Thread nD τ).loc main_arg3)) i) + eps)) := by
  rw [result_eq]
  funext i
  refine (squash_apply _ i).trans (congrArg Ideal.logistic ?_)
  exact last_apply _ _ _ _ _ _ _ _ fun r => graph_apply _ _ _ _ _ hw hb r

end Cert.ReferenceIdeal.Hand

end
-- ==== Proof.Agree.lean ====
/- The kernel and the reference return the same number, over the reals, where the scoring weights and the scoring bias are
   finite. -/
module

public import proofs.«01_k».proof.Defs
public import proofs.«01_k».proof.Proof.Finite
public import proofs.«01_k».proof.Proof.Run.Value
public import proofs.«01_k».proof.Proof.Ref.Value

@[expose] public section

set_option maxRecDepth 16384

noncomputable section

namespace Cert.Agree

open Idealize.ShloMosaic Idealize.ShloMosaic.TcCoe Idealize.ShloMosaic.ValueIdx Idealize.SL.Sem
open Cert.Network Cert.Attention

/-- From equal arguments the reference's result is the kernel's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (z : Mat 100000 32) (w1 : Mat 32 32) (b1 : Col 32) (w2 : Mat 32 1) (b2 : Col 1) (u1 : Mat 32 128) (v1 : Col 128) (u2 : Mat 128 64)
    (v2 : Col 64) (u3 : Mat 64 1) (v3 : Col 1)
    (k0 : m ((c : Thread Cert.KernelIdeal.nD Cert.KernelIdeal.τ).loc Cert.KernelIdeal.main_arg0) = z)
    (k1 : m ((c : Thread Cert.KernelIdeal.nD Cert.KernelIdeal.τ).loc Cert.KernelIdeal.main_arg1) = w1)
    (k2 : m ((c : Thread Cert.KernelIdeal.nD Cert.KernelIdeal.τ).loc Cert.KernelIdeal.main_arg2) = b1)
    (k3 : m ((c : Thread Cert.KernelIdeal.nD Cert.KernelIdeal.τ).loc Cert.KernelIdeal.main_arg3) = w2)
    (k5 : m ((c : Thread Cert.KernelIdeal.nD Cert.KernelIdeal.τ).loc Cert.KernelIdeal.main_arg5) = u1)
    (k6 : m ((c : Thread Cert.KernelIdeal.nD Cert.KernelIdeal.τ).loc Cert.KernelIdeal.main_arg6) = v1)
    (k7 : m ((c : Thread Cert.KernelIdeal.nD Cert.KernelIdeal.τ).loc Cert.KernelIdeal.main_arg7) = u2)
    (k8 : m ((c : Thread Cert.KernelIdeal.nD Cert.KernelIdeal.τ).loc Cert.KernelIdeal.main_arg8) = v2)
    (k9 : m ((c : Thread Cert.KernelIdeal.nD Cert.KernelIdeal.τ).loc Cert.KernelIdeal.main_arg9) = u3)
    (k10 : m ((c : Thread Cert.KernelIdeal.nD Cert.KernelIdeal.τ).loc Cert.KernelIdeal.main_arg10) = v3)
    (r0 : m' ((c : Thread Cert.ReferenceIdeal.nD Cert.ReferenceIdeal.τ).loc Cert.ReferenceIdeal.main_arg0) = z)
    (r1 : m' ((c : Thread Cert.ReferenceIdeal.nD Cert.ReferenceIdeal.τ).loc Cert.ReferenceIdeal.main_arg1) = w1)
    (r2 : m' ((c : Thread Cert.ReferenceIdeal.nD Cert.ReferenceIdeal.τ).loc Cert.ReferenceIdeal.main_arg2) = b1)
    (r3 : m' ((c : Thread Cert.ReferenceIdeal.nD Cert.ReferenceIdeal.τ).loc Cert.ReferenceIdeal.main_arg3) = w2)
    (r4 : m' ((c : Thread Cert.ReferenceIdeal.nD Cert.ReferenceIdeal.τ).loc Cert.ReferenceIdeal.main_arg4) = b2)
    (r5 : m' ((c : Thread Cert.ReferenceIdeal.nD Cert.ReferenceIdeal.τ).loc Cert.ReferenceIdeal.main_arg5) = u1)
    (r6 : m' ((c : Thread Cert.ReferenceIdeal.nD Cert.ReferenceIdeal.τ).loc Cert.ReferenceIdeal.main_arg6) = v1)
    (r7 : m' ((c : Thread Cert.ReferenceIdeal.nD Cert.ReferenceIdeal.τ).loc Cert.ReferenceIdeal.main_arg7) = u2)
    (r8 : m' ((c : Thread Cert.ReferenceIdeal.nD Cert.ReferenceIdeal.τ).loc Cert.ReferenceIdeal.main_arg8) = v2)
    (r9 : m' ((c : Thread Cert.ReferenceIdeal.nD Cert.ReferenceIdeal.τ).loc Cert.ReferenceIdeal.main_arg9) = u3)
    (r10 : m' ((c : Thread Cert.ReferenceIdeal.nD Cert.ReferenceIdeal.τ).loc Cert.ReferenceIdeal.main_arg10) = v3)
    (hw : ∀ i, IsReal (w2 i)) (hb : ∀ i, IsReal (b2 i)) :
    Cert.ReferenceIdeal.Value.res_main_v56 m' c = fun _ => Cert.KernelIdeal.Hand.output m c := by
  refine (Cert.ReferenceIdeal.Hand.result_value m' c (fun k => ?_) ?_).trans (funext fun _ => ?_)
  · rw [r3]; exact hw _
  · rw [r4]; exact hb _
  · unfold Cert.KernelIdeal.Hand.output Cert.KernelIdeal.Hand.featureOf Cert.KernelIdeal.Hand.weightOf
    rw [k0, k1, k2, k3, k5, k6, k7, k8, k9, k10, r0, r1, r2, r3, r5, r6, r7, r8, r9, r10]

/-- The value claim. -/
theorem algebraic : algebraic_KernelIdeal_ReferenceIdeal_pre_finite_scores (hKernelIdeal := Cert.KernelIdeal.Gen.facts)
    (hReferenceIdeal := Cert.ReferenceIdeal.Gen.facts) (hPre_finite_scores := Cert.Finite.facts) := by
  intro m g m' g' hpre hargs
  refine ⟨fun c => fun _ => Cert.KernelIdeal.Hand.output m c, Cert.KernelIdeal.Hand.run_value m g, ?_⟩
  refine (θ_run _ _ _).mono (fun r h c => ?_) (Cert.ReferenceIdeal.Value.run m' g')
  obtain ⟨hv, hrest⟩ := h c
  refine ⟨hv.trans ?_, hrest⟩
  obtain ⟨e0, e1, e2, e3, e4, e5, e6, e7, e8, e9, e10⟩ := hargs c
  have hfin := @Cert.Finite.isReal_of_pre Cert.Finite.facts _ _ _ _ _ _ _ _ _ _ _ (congrFun (hpre c) ix0)
  exact same_result m m' c _ _ _ _ _ _ _ _ _ _ _ rfl rfl rfl rfl rfl rfl rfl rfl rfl rfl e0 e1 e2 e3 e4 e5 e6 e7 e8 e9 e10 hfin.1 hfin.2

end Cert.Agree

end
-- ==== Proof.lean ====
/- The proof of the certificate's claim: the three frames with their counters, the rewrite-free step from the kernel to its
   ideal reading, and the kernel's result equal to the reference's over the reals. -/
module

public import proofs.«01_k».proof.Defs
public import proofs.«01_k».proof.Proof.Frame.Launch
public import proofs.«01_k».proof.Proof.Frames
public import proofs.«01_k».proof.Proof.Agree

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Finite.facts,
    fun m g _ => Cert.Kernel.Hand.frame m g,
    Cert.Frames.kernelIdeal,
    fun m g _ => Cert.Frames.kernelIdeal m g trivial,
    Cert.Frames.referenceIdeal,
    fun m g _ => Cert.Frames.referenceIdeal m g trivial,
    trivial,
    Cert.Agree.algebraic⟩

end Cert.Proof

end
